-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S_ : Shape := ⟨0, ![]⟩
abbrev S1024x256 : Shape := ⟨2, ![1024, 256]⟩
abbrev S4x2x128x1024 : Shape := ⟨4, ![4, 2, 128, 1024]⟩
abbrev S2x128x1024 : Shape := ⟨3, ![2, 128, 1024]⟩
abbrev S128x1024 : Shape := ⟨2, ![128, 1024]⟩
abbrev S16 : Shape := ⟨1, ![16]⟩
abbrev S1x256x1024 : Shape := ⟨3, ![1, 256, 1024]⟩
abbrev S256x1024 : Shape := ⟨2, ![256, 1024]⟩
abbrev S256x256 : Shape := ⟨2, ![256, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S1x1x128x1024 : Shape := ⟨4, ![1, 1, 128, 1024]⟩
abbrev S1 : Shape := ⟨1, ![1]⟩
abbrev S1x128x1024 : Shape := ⟨3, ![1, 128, 1024]⟩
abbrev S64x1024 : Shape := ⟨2, ![64, 1024]⟩
abbrev S1x64x1024 : Shape := ⟨3, ![1, 64, 1024]⟩

abbrev nBuf : Space → Nat
  | .hbm => 29
  | .vmem => 19
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x256, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1024x256, .f32⟩
  | .hbm, ⟨27, _⟩ => ⟨S1024x1024, .f32⟩
  | .hbm, ⟨28, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S1024x1024, .f32⟩
  | .local _ .vmem, ⟨6, _⟩ => ⟨S4x2x128x1024, .bf16⟩
  | .local _ .vmem, ⟨7, _⟩ => ⟨S2x128x1024, .bf16⟩
  | .local _ .vmem, ⟨8, _⟩ => ⟨S2x128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S2x128x1024, .bf16⟩
  | .local _ .vmem, ⟨18, _⟩ => ⟨S2x128x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v17 : BitVec 32 := Scalar.addi v2 c1_i32_6
  let c4_i32_7 : BitVec 32 := 4#32
  let c0_i32_8 : BitVec 32 := 0#32
  let v18 : BitVec 1 := Scalar.cmpi .eq c4_i32_7 c0_i32_8
  let c1_i32_9 : BitVec 32 := 1#32
  let v19 : BitVec 32 := Scalar.select v18 c1_i32_9 c4_i32_7
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c1_i32_14 : BitVec 32 := 1#32
  let v28 : BitVec 32 := Scalar.muli v27 c1_i32_14
  let v29 : BitVec 32 := Scalar.addi c0_i32_15 v28
  v29.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_16 : BitVec 32 := 2#32
  let v30 : BitVec 32 := Scalar.addi v2 c2_i32_16
  let c4_i32_17 : BitVec 32 := 4#32
  let c0_i32_18 : BitVec 32 := 0#32
  let v31 : BitVec 1 := Scalar.cmpi .eq c4_i32_17 c0_i32_18
  let c1_i32_19 : BitVec 32 := 1#32
  let v32 : BitVec 32 := Scalar.select v31 c1_i32_19 c4_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c1_i32_24 : BitVec 32 := 1#32
  let v41 : BitVec 32 := Scalar.muli v40 c1_i32_24
  let v42 : BitVec 32 := Scalar.addi c0_i32_25 v41
  v42.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_26 : BitVec 32 := 3#32
  let v43 : BitVec 32 := Scalar.addi v2 c3_i32_26
  let c4_i32_27 : BitVec 32 := 4#32
  let c0_i32_28 : BitVec 32 := 0#32
  let v44 : BitVec 1 := Scalar.cmpi .eq c4_i32_27 c0_i32_28
  let c1_i32_29 : BitVec 32 := 1#32
  let v45 : BitVec 32 := Scalar.select v44 c1_i32_29 c4_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let c0_i32 : BitVec 32 := 0#32
  let v6 : BitVec 1 := Scalar.cmpi .eq c4_i32_1 c0_i32
  let c1_i32_2 : BitVec 32 := 1#32
  let v7 : BitVec 32 := Scalar.select v6 c1_i32_2 c4_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v64 : Index := Scalar.indexCast v15
  let c0_44 : Index := 0#32
  let c0_45 : Index := 0#32
  ![v64.toNat, 0, 0]
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_101 : BitVec 32 := 1#32
  let v218 : BitVec 32 := Scalar.muli v3 c1_i32_101
  let v219 : BitVec 32 := Scalar.addi c0_i32_102 v218
  v219.toNat
def k0_dev5 (d0 : Dev nD) : Nat :=
  let c0_i32_113 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_112 : BitVec 32 := 1#32
  let v228 : BitVec 32 := Scalar.muli v4 c1_i32_112
  let v229 : BitVec 32 := Scalar.addi c0_i32_113 v228
  v229.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v238 : Index := Scalar.indexCast v3
  let c0_118 : Index := 0#32
  let c0_119 : Index := 0#32
  ![v238.toNat, 0, 0]
def k0_dev6 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_177 : BitVec 32 := 1#32
  let v392 : BitVec 32 := Scalar.muli v3 c1_i32_177
  let v393 : BitVec 32 := Scalar.addi c0_i32_178 v392
  v393.toNat
def k0_off3 (d0 : Dev nD) : Fin 3 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let v402 : Index := Scalar.indexCast v4
  let c0_183 : Index := 0#32
  let c0_184 : Index := 0#32
  ![v402.toNat, 0, 0]
def k0_dev7 (d0 : Dev nD) : Nat :=
  let c0_i32_242 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_241 : BitVec 32 := 1#32
  let v556 : BitVec 32 := Scalar.muli v4 c1_i32_241
  let v557 : BitVec 32 := Scalar.addi c0_i32_242 v556
  v557.toNat
def k0_dev8 (d0 : Dev nD) : Nat :=
  let c0_i32_270 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_269 : BitVec 32 := 1#32
  let v585 : BitVec 32 := Scalar.muli v4 c1_i32_269
  let v586 : BitVec 32 := Scalar.addi c0_i32_270 v585
  v586.toNat
def k0_dev9 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_292 : BitVec 32 := 1#32
  let v610 : BitVec 32 := Scalar.muli v3 c1_i32_292
  let v611 : BitVec 32 := Scalar.addi c0_i32_293 v610
  v611.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v616 : Index := Scalar.indexCast v2
  let c0_294 : Index := 0#32
  let c0_295 : Index := 0#32
  ![v616.toNat, 0, 0]
def k0_dev10 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_374 : BitVec 32 := 1#32
  let v796 : BitVec 32 := Scalar.muli v3 c1_i32_374
  let v797 : BitVec 32 := Scalar.addi c0_i32_375 v796
  v797.toNat
def k0_dev11 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_381 : BitVec 32 := 1#32
  let v804 : BitVec 32 := Scalar.muli v3 c1_i32_381
  let v805 : BitVec 32 := Scalar.addi c0_i32_382 v804
  v805.toNat
def k0_dev12 (d0 : Dev nD) : Nat :=
  let c0_i32_389 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_388 : BitVec 32 := 1#32
  let v812 : BitVec 32 := Scalar.muli v4 c1_i32_388
  let v813 : BitVec 32 := Scalar.addi c0_i32_389 v812
  v813.toNat
def k0_dev13 (d0 : Dev nD) : Nat :=
  let c0_i32_420 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_419 : BitVec 32 := 1#32
  let v846 : BitVec 32 := Scalar.muli v4 c1_i32_419
  let v847 : BitVec 32 := Scalar.addi c0_i32_420 v846
  v847.toNat
def k0_dev14 (d0 : Dev nD) : Nat :=
  let c0_i32_427 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_426 : BitVec 32 := 1#32
  let v854 : BitVec 32 := Scalar.muli v4 c1_i32_426
  let v855 : BitVec 32 := Scalar.addi c0_i32_427 v854
  v855.toNat
def k0_dev15 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_434 : BitVec 32 := 1#32
  let v862 : BitVec 32 := Scalar.muli v3 c1_i32_434
  let v863 : BitVec 32 := Scalar.addi c0_i32_435 v862
  v863.toNat
def k0_off5 (d0 : Dev nD) (c0_i32_440 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v872 : BitVec 32 := Scalar.muli v2 c256_i32
  let v873 : BitVec 32 := Scalar.addi v872 c0_i32_440
  let v874 : Index := Scalar.indexCast v873
  let c0_441 : Index := 0#32
  ![v874.toNat, 0]
def k0_dev16 (d0 : Dev nD) : Nat :=
  let c0_i32_457 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_456 : BitVec 32 := 1#32
  let v888 : BitVec 32 := Scalar.muli v4 c1_i32_456
  let v889 : BitVec 32 := Scalar.addi c0_i32_457 v888
  v889.toNat
def k0_dev17 (d0 : Dev nD) : Nat :=
  let c0_i32_473 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_472 : BitVec 32 := 1#32
  let v903 : BitVec 32 := Scalar.muli v4 c1_i32_472
  let v904 : BitVec 32 := Scalar.addi c0_i32_473 v903
  v904.toNat
def k0_off6 (d0 : Dev nD) (c128_i32_481 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_480 : BitVec 32 := 256#32
  let v914 : BitVec 32 := Scalar.muli v3 c256_i32_480
  let v915 : BitVec 32 := Scalar.addi v914 c128_i32_481
  let v916 : Index := Scalar.indexCast v915
  let c0_482 : Index := 0#32
  ![v916.toNat, 0]
def k0_dev18 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_493 : BitVec 32 := 1#32
  let v924 : BitVec 32 := Scalar.muli v3 c1_i32_493
  let v925 : BitVec 32 := Scalar.addi c0_i32_494 v924
  v925.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_509 : BitVec 32 := 1#32
  let v939 : BitVec 32 := Scalar.muli v3 c1_i32_509
  let v940 : BitVec 32 := Scalar.addi c0_i32_510 v939
  v940.toNat
def k0_off7 (d0 : Dev nD) (c0_i32_518 : BitVec 32) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_517 : BitVec 32 := 256#32
  let v950 : BitVec 32 := Scalar.muli v4 c256_i32_517
  let v951 : BitVec 32 := Scalar.addi v950 c0_i32_518
  let v952 : Index := Scalar.indexCast v951
  let c0_519 : Index := 0#32
  ![v952.toNat, 0]
def k0_off8 (d0 : Dev nD) (c0_i32_568 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let c0_i32 : BitVec 32 := 0#32
  let v6 : BitVec 1 := Scalar.cmpi .eq c4_i32_1 c0_i32
  let c1_i32_2 : BitVec 32 := 1#32
  let v7 : BitVec 32 := Scalar.select v6 c1_i32_2 c4_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c256_i32_567 : BitVec 32 := 256#32
  let v997 : BitVec 32 := Scalar.muli v15 c256_i32_567
  let v998 : BitVec 32 := Scalar.addi v997 c0_i32_568
  let v999 : Index := Scalar.indexCast v998
  let c0_569 : Index := 0#32
  ![v999.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S1024x1024 : Shape := ⟨2, ![1024, 1024]⟩
abbrev S4x256x4096 : Shape := ⟨3, ![4, 256, 4096]⟩
abbrev S4x256x32x128 : Shape := ⟨4, ![4, 256, 32, 128]⟩
abbrev S4x256x8x128 : Shape := ⟨4, ![4, 256, 8, 128]⟩
abbrev S4x256x8x4x128 : Shape := ⟨5, ![4, 256, 8, 4, 128]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩
abbrev S4x256x32x1 : Shape := ⟨4, ![4, 256, 32, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4x256x4096, .f32⟩
  | .hbm, ⟨6, _⟩ => ⟨S4x256x32x128, .f32⟩
  | .hbm, ⟨7, _⟩ => ⟨S4x256x1024, .f32⟩
  | .hbm, ⟨8, _⟩ => ⟨S4x256x8x128, .f32⟩
  | .hbm, ⟨9, _⟩ => ⟨S4x256x1024, .f32⟩
  | .hbm, ⟨10, _⟩ => ⟨S4x256x8x128, .f32⟩
  | .hbm, ⟨11, _⟩ => ⟨S4x256x8x4x128, .f32⟩
  | .hbm, ⟨12, _⟩ => ⟨S4x256x32x128, .f32⟩
  | .hbm, ⟨13, _⟩ => ⟨S4x256x8x4x128, .f32⟩
  | .hbm, ⟨14, _⟩ => ⟨S4x256x32x128, .f32⟩
  | .hbm, ⟨15, _⟩ => ⟨S4x32x256x256, .f32⟩
  | .hbm, ⟨16, _⟩ => ⟨S_, .f32⟩
  | .hbm, ⟨17, _⟩ => ⟨S4x32x256x256, .f32⟩
  | .hbm, ⟨18, _⟩ => ⟨S4x32x256x256, .f32⟩
  | .hbm, ⟨19, _⟩ => ⟨S_, .f32⟩
  | .hbm, ⟨20, _⟩ => ⟨S4x32x256, .f32⟩
  | .hbm, ⟨21, _⟩ => ⟨S4x32x256x1, .f32⟩
  | .hbm, ⟨22, _⟩ => ⟨S4x32x256x256, .f32⟩
  | .hbm, ⟨23, _⟩ => ⟨S4x32x256x256, .f32⟩
  | .hbm, ⟨24, _⟩ => ⟨S4x32x256x256, .f32⟩
  | .hbm, ⟨25, _⟩ => ⟨S_, .f32⟩
  | .hbm, ⟨26, _⟩ => ⟨S4x32x256, .f32⟩
  | .hbm, ⟨27, _⟩ => ⟨S4x32x256x1, .f32⟩
  | .hbm, ⟨28, _⟩ => ⟨S4x32x128x256, .f32⟩
  | .hbm, ⟨29, _⟩ => ⟨S4x256x32x128, .f32⟩
  | .hbm, ⟨30, _⟩ => ⟨S4x256x32x1, .f32⟩
  | .hbm, ⟨31, _⟩ => ⟨S4x256x32x128, .f32⟩
  | .hbm, ⟨32, _⟩ => ⟨S4x256x32x128, .f32⟩
  | .hbm, ⟨33, _⟩ => ⟨S4x256x4096, .f32⟩
  | .hbm, ⟨34, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Cells.lean ====
/-
  The buffers, the transfers and the cells of the kernel, over any float values.

  Four devices are the corners of a square: `p1` flips the last bit of the device number, `p2` is `3 - c`; the two are
  commuting involutions and `p1 (p2 c)` is the opposite corner. Sixteen copies leave every device, each to one of the two
  neighbours; copy `k` of a device and copy `k` of the neighbour it goes to cross one another. For each copy this file names the
  neighbour (`tgt`), the source and the destination (`src`, `dst`), and the two semaphores (`sendS`, `recvS`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Memref
public import Idealize.ShloMosaic.Lib.MemrefSat

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The square of devices -/

/-- The neighbour across the last bit. -/
def p1 (c : Dev nD) : Dev nD := ⟨(c.val ^^^ 1) % 4, Nat.mod_lt _ (by decide)⟩
/-- The neighbour across the other side. -/
def p2 (c : Dev nD) : Dev nD := ⟨(3 - c.val) % 4, Nat.mod_lt _ (by decide)⟩

theorem p1_p1 (c : Dev nD) : p1 (p1 c) = c := by revert c; decide
theorem p2_p2 (c : Dev nD) : p2 (p2 c) = c := by revert c; decide
theorem p2_p1 (c : Dev nD) : p2 (p1 c) = p1 (p2 c) := by revert c; decide
theorem p1_ne (c : Dev nD) : p1 c ≠ c := by revert c; decide
theorem p2_ne (c : Dev nD) : p2 c ≠ c := by revert c; decide
theorem p1_ne_p2 (c : Dev nD) : p1 c ≠ p2 c := by revert c; decide
theorem p12_ne (c : Dev nD) : p1 (p2 c) ≠ c := by revert c; decide
theorem p12_ne_p1 (c : Dev nD) : p1 (p2 c) ≠ p1 c := by revert c; decide
theorem p12_ne_p2 (c : Dev nD) : p1 (p2 c) ≠ p2 c := by revert c; decide

/-! ## The buffers -/

abbrev xM : Memref sig .tc .vmem S4x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkM : Memref sig .tc .vmem S1024x256 .f32 := Memref.whole cc0_stg3_0
abbrev wvM : Memref sig .tc .vmem S1024x256 .f32 := Memref.whole cc0_stg4_0
abbrev oM : Memref sig .tc .vmem S1024x1024 .f32 := Memref.whole cc0_stg5_0
/-- The partial products: a block of the batch and a half of its rows per plane. -/
abbrev pbM : Memref sig .tc .vmem S4x2x128x1024 .bf16 := Memref.whole cc0_scratch0
abbrev s1pM : Memref sig .tc .vmem S2x128x1024 .bf16 := Memref.whole cc0_scratch1
abbrev s1qM : Memref sig .tc .vmem S2x128x1024 .bf16 := Memref.whole cc0_scratch2
abbrev snpM : Memref sig .tc .vmem S128x1024 .bf16 := Memref.whole cc0_scratch3
abbrev s2pM : Memref sig .tc .vmem S128x1024 .bf16 := Memref.whole cc0_scratch4
abbrev snqM : Memref sig .tc .vmem S128x1024 .bf16 := Memref.whole cc0_scratch5
abbrev s2qM : Memref sig .tc .vmem S128x1024 .bf16 := Memref.whole cc0_scratch6
abbrev rpM : Memref sig .tc .vmem S128x1024 .bf16 := Memref.whole cc0_scratch7
abbrev rqM : Memref sig .tc .vmem S128x1024 .bf16 := Memref.whole cc0_scratch8
abbrev s3pM : Memref sig .tc .vmem S128x1024 .bf16 := Memref.whole cc0_scratch9
abbrev s3qM : Memref sig .tc .vmem S128x1024 .bf16 := Memref.whole cc0_scratch10
abbrev s4pM : Memref sig .tc .vmem S2x128x1024 .bf16 := Memref.whole cc0_scratch11
abbrev s4qM : Memref sig .tc .vmem S2x128x1024 .bf16 := Memref.whole cc0_scratch12

/-! ## The rectangles -/

theorem pR_inb (b : Fin 4) (h : Fin 2) : ∀ a, (![b.val, h.val, 0, 0] : Fin 4 → Nat) a + S1x1x128x1024.size a ≤ S4x2x128x1024.size a := by
  revert b h; decide
/-- Plane `(b, h)` of the partial products. -/
abbrev pR (b : Fin 4) (h : Fin 2) : Rect S4x2x128x1024 := Rect.unit (s := S4x2x128x1024) ![b.val, h.val, 0, 0] S1x1x128x1024.size (pR_inb b h)

theorem lR_inb (h : Fin 2) : ∀ a, (![h.val, 0, 0] : Fin 3 → Nat) a + S1x128x1024.size a ≤ S2x128x1024.size a := by
  revert h; decide
/-- Plane `h` of a landing buffer of two planes. -/
abbrev lR (h : Fin 2) : Rect S2x128x1024 := Rect.unit (s := S2x128x1024) ![h.val, 0, 0] S1x128x1024.size (lR_inb h)

/-- The first row of half `u` of a plane of 128 rows. -/
def row (u : Fin 2) : Nat := match u with | 0 => 0 | 1 => 64

theorem hR_inb (u : Fin 2) : ∀ a, (![row u, 0] : Fin 2 → Nat) a + S64x1024.size a ≤ S128x1024.size a := by
  revert u; decide
/-- Half `u` of 128 rows. -/
abbrev hR (u : Fin 2) : Rect S128x1024 := Rect.unit (s := S128x1024) ![row u, 0] S64x1024.size (hR_inb u)

theorem qR_inb (u : Fin 2) : ∀ a, (![1, row u, 0] : Fin 3 → Nat) a + S1x64x1024.size a ≤ S2x128x1024.size a := by
  revert u; decide
/-- Half `u` of the second plane of a landing buffer. -/
abbrev qR (u : Fin 2) : Rect S2x128x1024 := Rect.unit (s := S2x128x1024) ![1, row u, 0] S1x64x1024.size (qR_inb u)

theorem sqP : S1x1x128x1024.Squeezes S128x1024 := squeezes_S1x1x128x1024_S128x1024
theorem sqL : S1x128x1024.Squeezes S128x1024 := squeezes_S1x128x1024_S128x1024
theorem sqQ : S1x64x1024.Squeezes S64x1024 := squeezes_S1x64x1024_S64x1024

/-- Plane `(b, h)` of the partial products. -/
abbrev plM (b : Fin 4) (h : Fin 2) : Memref sig .tc .vmem S128x1024 .bf16 := (pbM.slice (pR b h) (fun _ => rfl)).squeeze S128x1024 sqP
/-- Plane `h` of a landing buffer. -/
abbrev lnM (M : Memref sig .tc .vmem S2x128x1024 .bf16) (h : Fin 2) : Memref sig .tc .vmem S128x1024 .bf16 :=
  (M.slice (lR h) (fun _ => rfl)).squeeze S128x1024 sqL
/-- Half `u` of 128 rows. -/
abbrev hfM (M : Memref sig .tc .vmem S128x1024 .bf16) (u : Fin 2) : Memref sig .tc .vmem S64x1024 .bf16 := M.slice (hR u) (fun _ => rfl)
/-- Half `u` of the second plane of a landing buffer. -/
abbrev qtM (M : Memref sig .tc .vmem S2x128x1024 .bf16) (u : Fin 2) : Memref sig .tc .vmem S64x1024 .bf16 :=
  (M.slice (qR u) (fun _ => rfl)).squeeze S64x1024 sqQ

/-! ## The sixteen copies -/

/-- Whether copy `k` goes to `p1`. -/
def viaP1 : Fin 16 → Bool := ![true, false, true, false, false, true, false, false, true, true, true, false, true, true, false, false]
/-- The neighbour copy `k` goes to, which is the neighbour whose copy `k` comes in. -/
def tgt (k : Fin 16) (c : Dev nD) : Dev nD := if viaP1 k then p1 c else p2 c

theorem tgt_tgt (k : Fin 16) (c : Dev nD) : tgt k (tgt k c) = c := by
  unfold tgt; split
  · exact p1_p1 c
  · exact p2_p2 c

/-- The shape copy `k` moves. -/
def shp : Fin 16 → Shape
  | 0 => S128x1024 | 1 => S128x1024 | 2 => S128x1024 | 3 => S128x1024 | 4 => S128x1024 | 5 => S128x1024
  | 6 => S64x1024 | 7 => S64x1024 | 8 => S64x1024 | 9 => S64x1024 | 10 => S128x1024 | 11 => S128x1024
  | 12 => S64x1024 | 13 => S64x1024 | 14 => S64x1024 | 15 => S64x1024
  | ⟨_ + 16, h⟩ => absurd h (Nat.not_lt.2 (Nat.le_add_left _ _))

/-- What copy `k` reads, on the device it leaves. -/
def src (k : Fin 16) : Memref sig .tc .vmem (shp k) .bf16 :=
  match k with
  | 0 => plM 0 0 | 1 => plM 0 1 | 2 => plM 1 0 | 3 => plM 2 1 | 4 => snpM | 5 => snqM
  | 6 => hfM rpM 0 | 7 => hfM rpM 1 | 8 => hfM rqM 0 | 9 => hfM rqM 1 | 10 => rpM | 11 => rqM
  | 12 => hfM s3pM 0 | 13 => hfM s3pM 1 | 14 => hfM s3qM 0 | 15 => hfM s3qM 1
  | ⟨_ + 16, h⟩ => absurd h (Nat.not_lt.2 (Nat.le_add_left _ _))

/-- What copy `k` writes, on the device it goes to. -/
def dst (k : Fin 16) : Memref sig .tc .vmem (shp k) .bf16 :=
  match k with
  | 0 => lnM s1pM 0 | 1 => lnM s1qM 0 | 2 => lnM s1pM 1 | 3 => lnM s1qM 1 | 4 => s2pM | 5 => s2qM
  | 6 => hfM s3pM 0 | 7 => hfM s3pM 1 | 8 => hfM s3qM 0 | 9 => hfM s3qM 1 | 10 => lnM s4pM 0 | 11 => lnM s4qM 0
  | 12 => qtM s4pM 0 | 13 => qtM s4pM 1 | 14 => qtM s4qM 0 | 15 => qtM s4qM 1
  | ⟨_ + 16, h⟩ => absurd h (Nat.not_lt.2 (Nat.le_add_left _ _))

/-- The share of the source that copy `k` holds while it is under way: what is read meanwhile keeps a share. -/
def qs : Fin 16 → PosShare TreeShare
  | 0 => fullShare | 1 => fullShare | 2 => fullShare | 3 => fullShare | 4 => fullShare | 5 => fullShare
  | 6 => fullShare.right.right | 7 => fullShare.right.right | 8 => fullShare.right.right | 9 => fullShare.right.right
  | 10 => fullShare.right.left | 11 => fullShare.right.left
  | 12 => fullShare.right | 13 => fullShare.right | 14 => fullShare.right | 15 => fullShare.right
  | ⟨_ + 16, h⟩ => absurd h (Nat.not_lt.2 (Nat.le_add_left _ _))

/-- The units copy `k` pays. -/
def N (k : Fin 16) : ℕ := (dst k).view.dmaCredit

theorem N_pos (k : Fin 16) : 0 < N k := by
  unfold N; exact View.dmaCredit_pos _ (by revert k; decide)

/-! ## The cells -/

abbrev barS : Sem sig := (SemArray.scalar (sig.barrier 0 rfl) : Sems sig S_).sem
def sendS (k : Fin 16) : DmaSem sig := (⟨6 + k.val, by have := k.isLt; omega⟩ : Fin 38)
def recvS (k : Fin 16) : DmaSem sig := (⟨22 + k.val, by have := k.isLt; omega⟩ : Fin 38)

abbrev barCell (c : Dev nD) : GSem nD τ sig := ((c : Thread nD τ), .reg barS)
abbrev sendCell (k : Fin 16) (c : Dev nD) : GSem nD τ sig := ((c : Thread nD τ), .dma (sendS k))
abbrev recvCell (k : Fin 16) (c : Dev nD) : GSem nD τ sig := ((c : Thread nD τ), .dma (recvS k))

theorem sendS_inj : Function.Injective sendS := by decide
theorem recvS_inj : Function.Injective recvS := by decide
theorem sendS_ne_recvS (k j : Fin 16) : sendS k ≠ recvS j := by revert k j; decide

/-! ## The kernel's device numbers -/

theorem dev1 (c : Dev nD) : (⟨k0_dev1 c, k0_dev1_lt c⟩ : Dev nD) = ⟨(c.val + 1) % 4, Nat.mod_lt _ (by decide)⟩ := by revert c; decide
theorem dev2 (c : Dev nD) : (⟨k0_dev2 c, k0_dev2_lt c⟩ : Dev nD) = ⟨(c.val + 2) % 4, Nat.mod_lt _ (by decide)⟩ := by revert c; decide
theorem dev3 (c : Dev nD) : (⟨k0_dev3 c, k0_dev3_lt c⟩ : Dev nD) = ⟨(c.val + 3) % 4, Nat.mod_lt _ (by decide)⟩ := by revert c; decide
theorem dev4 (c : Dev nD) : (⟨k0_dev4 c, k0_dev4_lt c⟩ : Dev nD) = tgt 0 c := by revert c; decide
theorem dev5 (c : Dev nD) : (⟨k0_dev5 c, k0_dev5_lt c⟩ : Dev nD) = tgt 1 c := by revert c; decide
theorem dev6 (c : Dev nD) : (⟨k0_dev6 c, k0_dev6_lt c⟩ : Dev nD) = tgt 2 c := by revert c; decide
theorem dev7 (c : Dev nD) : (⟨k0_dev7 c, k0_dev7_lt c⟩ : Dev nD) = tgt 3 c := by revert c; decide
theorem dev8 (c : Dev nD) : (⟨k0_dev8 c, k0_dev8_lt c⟩ : Dev nD) = tgt 4 c := by revert c; decide
theorem dev9 (c : Dev nD) : (⟨k0_dev9 c, k0_dev9_lt c⟩ : Dev nD) = tgt 5 c := by revert c; decide
theorem dev10 (c : Dev nD) : (⟨k0_dev10 c, k0_dev10_lt c⟩ : Dev nD) = tgt 8 c := by revert c; decide
theorem dev11 (c : Dev nD) : (⟨k0_dev11 c, k0_dev11_lt c⟩ : Dev nD) = tgt 9 c := by revert c; decide
theorem dev12 (c : Dev nD) : (⟨k0_dev12 c, k0_dev12_lt c⟩ : Dev nD) = tgt 11 c := by revert c; decide
theorem dev13 (c : Dev nD) : (⟨k0_dev13 c, k0_dev13_lt c⟩ : Dev nD) = tgt 6 c := by revert c; decide
theorem dev14 (c : Dev nD) : (⟨k0_dev14 c, k0_dev14_lt c⟩ : Dev nD) = tgt 7 c := by revert c; decide
theorem dev15 (c : Dev nD) : (⟨k0_dev15 c, k0_dev15_lt c⟩ : Dev nD) = tgt 10 c := by revert c; decide
theorem dev16 (c : Dev nD) : (⟨k0_dev16 c, k0_dev16_lt c⟩ : Dev nD) = tgt 14 c := by revert c; decide
theorem dev17 (c : Dev nD) : (⟨k0_dev17 c, k0_dev17_lt c⟩ : Dev nD) = tgt 15 c := by revert c; decide
theorem dev18 (c : Dev nD) : (⟨k0_dev18 c, k0_dev18_lt c⟩ : Dev nD) = tgt 12 c := by revert c; decide
theorem dev19 (c : Dev nD) : (⟨k0_dev19 c, k0_dev19_lt c⟩ : Dev nD) = tgt 13 c := by revert c; decide

end Cert.KernelIdeal.Run
-- ==== Proof.Contents.lean ====
/-
  What every buffer holds, over any float values: the partial products a device computes, what each of its sixteen copies moves,
  and the finished result.
-/
module

public import proofs.«01_k».proof.Proof.Cells

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Reading contents through a squeezed view and back -/

section Squeeze
variable {s s' : Shape} {α : Type}

/-- Contents of a rectangle, read at the squeezed shape. -/
def sq (h : s.Squeezes s') (w : s.Idx → α) : s'.Idx → α := fun i => w (Shape.reshapeEquiv h.numel_eq i)
/-- Contents at the squeezed shape, read at the rectangle's own. -/
def unsq (h : s.Squeezes s') (X : s'.Idx → α) : s.Idx → α := fun i => X ((Shape.reshapeEquiv h.numel_eq).symm i)

theorem unsq_sq (h : s.Squeezes s') (w : s.Idx → α) : unsq h (sq h w) = w := by
  funext i; unfold unsq sq; rw [Equiv.apply_symm_apply]
theorem sq_unsq (h : s.Squeezes s') (X : s'.Idx → α) : sq h (unsq h X) = X := by
  funext i; exact congrArg X (Equiv.symm_apply_apply _ i)

end Squeeze

/-! ## A device's partial products

The operand blocks are the device's own: the batch whole, its columns of the query projection, its rows of the output
projection, and its columns of the key and value projections. The batch block at hand goes through the eight heads of the device;
the four blocks of the batch are computed one after the other, each written out by its own statements. -/

section Planes

variable (wq wo : Vec F S1024x1024 .f32) (wk wv : Vec F S1024x256 .f32) (x : Vec F S1x256x1024 .f32)

/-- The first block's two halves. -/
def plane0 (h : Fin 2) : FVec F S1x1x128x1024 .bf16 :=
  let v57 := k0_pay1 wq; let v59 := k0_pay2 wk; let v61 := k0_pay3 wv; let v63 := k0_pay4 wo
  let v67 := k0_pay6 v57 x; let v68 := k0_pay7 v59 x; let v69 := k0_pay8 v61 x
  let v86 := k0_pay9 v57 v59 v61 x; let v103 := k0_pay10 v57 v59 v61 x
  let v120 := k0_pay14 (k0_pay11 v57 x) (k0_pay12 v61 x) (k0_pay13 v59 x) (constant S256x256 .f32 0x00000000#32)
  let v137 := k0_pay15 v67 v68 v69
  let v154 := k0_pay19 (k0_pay17 v67 v68 v69) (k0_pay18 v67 v68)
  let v171 := k0_pay20 v67 v68 v69; let v188 := k0_pay21 v67 v68 v69; let v191 := k0_pay22 v69; let v200 := k0_pay23 v67 v68
  match h with
  | 0 => k0_pay25 v63 v86 v103 v120 v137 v154 v171 v188 v191 v200
  | 1 => k0_pay26 v63 v86 v103 v120 v137 v154 v171 v188 v191 v200

/-- The second block's. -/
def plane1 (h : Fin 2) : FVec F S1x1x128x1024 .bf16 :=
  let v57 := k0_pay1 wq; let v59 := k0_pay2 wk; let v61 := k0_pay3 wv; let v63 := k0_pay4 wo
  let v241 := k0_pay28 v57 x; let v242 := k0_pay29 v59 x; let v243 := k0_pay30 v61 x
  let v260 := k0_pay31 v57 v59 v61 x
  let v277 := k0_pay35 (k0_pay32 v61 x) (k0_pay33 v57 v59 x) (k0_pay34 v57 v59 x)
  let v294 := k0_pay36 v241 v242 v243; let v311 := k0_pay37 v241 v242 v243
  let v328 := k0_pay40 (k0_pay38 v243) (k0_pay39 v241 v242) (Scalar.ofBits .f32 0x3DB504F3#32)
  let v345 := k0_pay41 v241 v242 v243; let v362 := k0_pay42 v241 v242 v243; let v363 := k0_pay43 v241
  match h with
  | 0 => k0_pay45 v63 v242 v243 v260 v277 v294 v311 v328 v345 v362 v363
  | 1 => k0_pay46 v63 v242 v243 v260 v277 v294 v311 v328 v345 v362 v363

/-- The third block's. -/
def plane2 (h : Fin 2) : FVec F S1x1x128x1024 .bf16 :=
  let v57 := k0_pay1 wq; let v59 := k0_pay2 wk; let v61 := k0_pay3 wv; let v63 := k0_pay4 wo
  let v405 := k0_pay48 v57 x; let v406 := k0_pay49 v59 x; let v407 := k0_pay50 v61 x
  let v424 := k0_pay51 v57 v59 v61 x
  let v441 := k0_pay55 (k0_pay53 v57 v59 v61 x) (k0_pay54 v57 v59 x)
  let v458 := k0_pay56 v405 v406 v407; let v475 := k0_pay57 v405 v406 v407
  let v492 := k0_pay60 (k0_pay58 v407) (k0_pay59 v405 v406)
  let v509 := k0_pay61 v405 v406 v407; let v526 := k0_pay62 v405 v406 v407; let v529 := k0_pay63 v407; let v533 := k0_pay64 v405 v406
  match h with
  | 0 => k0_pay66 v63 v424 v441 v458 v475 v492 v509 v526 v529 v533
  | 1 => k0_pay67 v63 v424 v441 v458 v475 v492 v509 v526 v529 v533

/-- The fourth block's, which is the device's own. -/
def plane3 (h : Fin 2) : FVec F S1x1x128x1024 .bf16 :=
  let v57 := k0_pay1 wq; let v59 := k0_pay2 wk; let v61 := k0_pay3 wv; let v63 := k0_pay4 wo
  let v619 := k0_pay71 v57 x; let v620 := k0_pay72 v59 x; let v621 := k0_pay73 v61 x
  let v638 := k0_pay76 (k0_pay74 v61 x) (k0_pay75 v57 v59 x) (Scalar.ofBits .f32 0x3DB504F3#32)
  let v655 := k0_pay77 v619 v620 v621; let v672 := k0_pay78 v619 v620 v621
  let v689 := k0_pay80 v620 v621 (k0_pay79 v619)
  let v706 := k0_pay81 v619 v620 v621; let v709 := k0_pay82 v621; let v718 := k0_pay83 v619 v620; let v719 := k0_pay84 v619 v620
  match h with
  | 0 => k0_pay87 (k0_pay86 v63 v619 v620 v621 v638 v655 v672 v689 v706 v709 v718 v719)
  | 1 => k0_pay88 (k0_pay85 v63 v619 v620 v621 v638 v655 v672 v689 v706 v709 v718 v719)

end Planes

/-- What each device's five operands hold. -/
structure Inputs (F : FTy → Type) [FloatOps F] where
  x : Dev nD → Vec F S4x256x1024 .f32
  wq : Dev nD → Vec F S1024x1024 .f32
  wo : Dev nD → Vec F S1024x1024 .f32
  wk : Dev nD → Vec F S1024x256 .f32
  wv : Dev nD → Vec F S1024x256 .f32

variable (I : Inputs F)

/-- The block of the batch read for plane `b`: the opposite corner's, `p1`'s, `p2`'s, the device's own. -/
def xAt (b : Fin 4) (c : Dev nD) : Vec F S1x256x1024 .f32 :=
  match b with
  | 0 => xM.view.readAt (Elt F) (Rect.unit (s := S4x256x1024) (k0_off1 c) S1x256x1024.size (k0_off1_inb c)).toLoadRect (I.x c)
  | 1 => xM.view.readAt (Elt F) (Rect.unit (s := S4x256x1024) (k0_off2 c) S1x256x1024.size (k0_off2_inb c)).toLoadRect (I.x c)
  | 2 => xM.view.readAt (Elt F) (Rect.unit (s := S4x256x1024) (k0_off3 c) S1x256x1024.size (k0_off3_inb c)).toLoadRect (I.x c)
  | 3 => xM.view.readAt (Elt F) (Rect.unit (s := S4x256x1024) (k0_off4 c) S1x256x1024.size (k0_off4_inb c)).toLoadRect (I.x c)

/-- Device `c`'s partial product in plane `(b, h)`. -/
def pv (b : Fin 4) (h : Fin 2) (c : Dev nD) : FVec F S1x1x128x1024 .bf16 :=
  match b with
  | 0 => plane0 (I.wq c) (I.wo c) (I.wk c) (I.wv c) (xAt I 0 c) h
  | 1 => plane1 (I.wq c) (I.wo c) (I.wk c) (I.wv c) (xAt I 1 c) h
  | 2 => plane2 (I.wq c) (I.wo c) (I.wk c) (I.wv c) (xAt I 2 c) h
  | 3 => plane3 (I.wq c) (I.wo c) (I.wk c) (I.wv c) (xAt I 3 c) h

/-- The same at the plane's own shape. -/
def ps (b : Fin 4) (h : Fin 2) (c : Dev nD) : Vec F S128x1024 .bf16 := sq sqP (pv I b h c)

/-- A plane of 128 rows as it is read from a landing buffer. -/
def ld (X : Vec F S128x1024 .bf16) : Vec F S1x128x1024 .bf16 := unsq sqL X

/-- The first sum of two sent on: the first halves of `p2`'s block, this device's and `p1`'s. -/
def snp (c : Dev nD) : FVec F S128x1024 .bf16 := k0_pay68 (pv I 2 0 c) (ld (ps I 0 0 (p1 c)))
/-- The other: the second halves of `p1`'s block, this device's and `p2`'s. -/
def snq (c : Dev nD) : FVec F S128x1024 .bf16 := k0_pay69 (pv I 1 1 c) (ld (ps I 0 1 (p2 c)))
/-- The first half of the device's own block, summed over the four devices. -/
def redp (c : Dev nD) : FVec F S128x1024 .bf16 := k0_pay91 (pv I 3 0 c) (ld (ps I 1 0 (p1 c))) (snp I (p2 c))
/-- The second half. -/
def redq (c : Dev nD) : FVec F S128x1024 .bf16 := k0_pay90 (k0_pay89 (pv I 3 1 c) (ld (ps I 2 1 (p2 c))) (snq I (p1 c)))

/-- Half `u` of the rows of contents of 128 rows. -/
def hf (u : Fin 2) (X : Vec F S128x1024 .bf16) : Vec F S64x1024 .bf16 := fun j => X ((hR u).emb j)

/-- What copy `k` of device `c` moves. -/
def val (k : Fin 16) (c : Dev nD) : (shp k).Idx → Elt F .bf16 :=
  match k with
  | 0 => ps I 0 0 c | 1 => ps I 0 1 c | 2 => ps I 1 0 c | 3 => ps I 2 1 c | 4 => snp I c | 5 => snq I c
  | 6 => hf 0 (redp I c) | 7 => hf 1 (redp I c) | 8 => hf 0 (redq I c) | 9 => hf 1 (redq I c) | 10 => redp I c | 11 => redq I c
  | 12 => hf 0 (redp I (p2 c)) | 13 => hf 1 (redp I (p2 c)) | 14 => hf 0 (redq I (p1 c)) | 15 => hf 1 (redq I (p1 c))
  | ⟨_ + 16, h⟩ => absurd h (Nat.not_lt.2 (Nat.le_add_left _ _))

/-! ## The result -/

/-- Half `h` of block `b` of the result: the four devices' sum, widened. -/
def oh (b : Dev nD) (h : Fin 2) : FVec F S128x1024 .f32 :=
  match h with
  | 0 => k0_pay92 (redp I b)
  | 1 => k0_pay93 (redq I b)

/-- The result: row `256 b + 128 h + r` is row `r` of half `h` of block `b`. -/
def outV : Vec F S1024x1024 .f32 := fun j =>
  oh I ⟨(j 0).val / 256, by have h : (j 0).val < 1024 := (j 0).isLt; show (j 0).val / 256 < 4; omega⟩ ⟨(j 0).val / 128 % 2, Nat.mod_lt _ (by decide)⟩
    (fun a => match a with
      | 0 => (⟨(j 0).val % 128, Nat.mod_lt _ (by decide)⟩ : Fin 128)
      | 1 => j 1)

theorem pay96_ld (X : Vec F S128x1024 .bf16) : k0_pay96 (ld X) = k0_pay92 X :=
  congrArg k0_pay92 (sq_unsq sqL X)
theorem pay97_ld (X : Vec F S128x1024 .bf16) : k0_pay97 (ld X) = k0_pay93 X :=
  congrArg k0_pay93 (sq_unsq sqL X)
theorem pay98_ld (X : Vec F S128x1024 .bf16) : k0_pay98 (ld X) = k0_pay92 X :=
  congrArg k0_pay92 (sq_unsq sqL X)
theorem pay99_ld (X : Vec F S128x1024 .bf16) : k0_pay99 (ld X) = k0_pay93 X :=
  congrArg k0_pay93 (sq_unsq sqL X)
theorem pay94_eq (X : Vec F S128x1024 .bf16) : k0_pay94 X = k0_pay93 X := rfl
theorem pay95_eq (X : Vec F S128x1024 .bf16) : k0_pay95 X = k0_pay92 X := rfl

end Cert.KernelIdeal.Run
-- ==== Proof.Protocol.lean ====
/-
  The protocol of the sixteen copies, over any float values.

  At the start every device tells the three others that it is ready; with the word to a neighbour go the places the
  neighbour's eight copies will land in. Then each copy hands its source, or a share of it, to its send cell and its filled destination
  to the receive cell of the neighbour; both cells are used once.
-/
module

public import proofs.«01_k».proof.Proof.Contents

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
/-! ## The resource algebra: the pipeline's copy and the protocol's, whose duties are named by devices -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

variable (I : Inputs F)

/-! ## The schedule -/

/-- A DMA semaphore of the copies: which copy it belongs to, and whether it is the one the copy's arrival raises. -/
def kind (s : DmaSem sig) : Option (Bool × Fin 16) :=
  if h : 6 ≤ (s : Fin 38).val ∧ (s : Fin 38).val < 22 then some (false, ⟨(s : Fin 38).val - 6, by omega⟩)
  else if 22 ≤ (s : Fin 38).val then some (true, ⟨((s : Fin 38).val - 22) % 16, Nat.mod_lt _ (by decide)⟩)
  else none

theorem kind_send (k : Fin 16) : kind (sendS k) = some (false, k) := by revert k; decide
theorem kind_recv (k : Fin 16) : kind (recvS k) = some (true, k) := by revert k; decide

/-- A place for copy `k` to land in on device `c`, at any contents, its receive cell not yet used. -/
def give (k : Fin 16) (c : Dev nD) : sProp 𝕄 :=
  iprop((∃ X, owns (c : Thread nD τ) (dst k) fullShare X) ∗ reached ER (recvCell k c) 0)

/-- With device `d`'s word to device `b` go the places for the copies `b` sends to `d`. -/
def barPay (b d : Dev nD) : sProp 𝕄 := bigSep (Finset.univ.filter fun k => tgt k b = d) fun k => give k d
/-- What copy `k` leaves behind on its own device. -/
def sendPay (k : Fin 16) (c : Dev nD) : sProp 𝕄 := owns (c : Thread nD τ) (src k) (qs k) (val I k c)
/-- What copy `k` of the neighbour brings. -/
def recvPay (k : Fin 16) (c : Dev nD) : sProp 𝕄 := owns (c : Thread nD τ) (dst k) fullShare (val I k (tgt k c))

def amountOf : SemLoc sig → ℕ
  | .reg _ => 1
  | .dma s => match kind s with
    | some (_, k) => N k
    | none => 1

def payOf (c d : Dev nD) : SemLoc sig → sProp 𝕄
  | .reg _ => barPay c d
  | .dma s => match kind s with
    | some (true, k) => recvPay I k c
    | some (false, k) => sendPay I k c
    | none => iprop(emp)

def dutiesOf (c : Dev nD) : SemLoc sig → Finset (Dev nD)
  | .reg _ => Finset.univ.erase c
  | .dma s => if (kind s).isSome then {0} else ∅

/-- One round on every cell: three words on a ready cell, one copy on the others. -/
def Rd : Rounds.Schedule (GSem nD τ sig) (Dev nD) 𝕄 where
  duties g r := if r = 0 ∧ g.1.2 = .tc then dutiesOf g.1.1 g.2 else ∅
  unitless _ := False
  amount g _ _ := amountOf g.2
  payload g _ d := payOf I g.1.1 d g.2
  amount_pos g _ _ _ := by
    obtain ⟨_, sm⟩ := g
    cases sm with
    | reg s => exact Nat.one_pos
    | dma s =>
      show 0 < (match kind s with | some (_, k) => N k | none => 1)
      split
      · exact N_pos _
      · exact Nat.one_pos

instance give_storable (k : Fin 16) (c : Dev nD) : BI.Storable (upEmb : UEmb _ 𝕄) (give (F := F) k c) := by
  unfold give; infer_instance

instance Rd_payload_storable (g : GSem nD τ sig) (r : ℕ) (d : Dev nD) : BI.Storable (upEmb : UEmb _ 𝕄) ((Rd I).payload g r d) := by
  show BI.Storable upEmb (payOf I g.1.1 d g.2)
  obtain ⟨_, sm⟩ := g
  cases sm with
  | reg s => show BI.Storable upEmb (barPay _ _); unfold barPay; infer_instance
  | dma s =>
    show BI.Storable upEmb (match kind s with | some (true, k) => recvPay I k _ | some (false, k) => sendPay I k _ | none => iprop(emp))
    unfold recvPay sendPay
    split <;> infer_instance

section Sched
variable (k : Fin 16) (c : Dev nD)

theorem duties_zero (sm : SemLoc sig) : (Rd I).duties ((c : Thread nD τ), sm) 0 = dutiesOf c sm := by
  show (if (0 : ℕ) = 0 ∧ (c : Thread nD τ).2 = .tc then dutiesOf c sm else ∅) = _
  exact if_pos ⟨rfl, rfl⟩
theorem duties_bar : (Rd I).duties (barCell c) 0 = Finset.univ.erase c := duties_zero I c _
theorem duties_send : (Rd I).duties (sendCell k c) 0 = {0} := by
  rw [sendCell, duties_zero]; show (if (kind (sendS k)).isSome then ({0} : Finset (Dev nD)) else ∅) = _; rw [kind_send]; rfl
theorem duties_recv : (Rd I).duties (recvCell k c) 0 = {0} := by
  rw [recvCell, duties_zero]; show (if (kind (recvS k)).isSome then ({0} : Finset (Dev nD)) else ∅) = _; rw [kind_recv]; rfl
theorem duties_later (g : GSem nD τ sig) : ∀ r, 1 ≤ r → (Rd I).duties g r = ∅ :=
  fun r hr => if_neg fun h => by omega

theorem amount_bar (d : Dev nD) : (Rd I).amount (barCell c) 0 d = 1 := rfl
theorem amount_send (d : Dev nD) : (Rd I).amount (sendCell k c) 0 d = N k := by
  show (match kind (sendS k) with | some (_, k) => N k | none => 1) = _; rw [kind_send]
theorem amount_recv (d : Dev nD) : (Rd I).amount (recvCell k c) 0 d = N k := by
  show (match kind (recvS k) with | some (_, k) => N k | none => 1) = _; rw [kind_recv]

theorem payload_bar (d : Dev nD) : (Rd I).payload (barCell c) 0 d = barPay c d := rfl
theorem payload_send (d : Dev nD) : (Rd I).payload (sendCell k c) 0 d = sendPay I k c := by
  show (match kind (sendS k) with | some (true, k) => recvPay I k c | some (false, k) => sendPay I k c | none => iprop(emp)) = _
  rw [kind_send]
theorem payload_recv (d : Dev nD) : (Rd I).payload (recvCell k c) 0 d = recvPay I k c := by
  show (match kind (recvS k) with | some (true, k) => recvPay I k c | some (false, k) => sendPay I k c | none => iprop(emp)) = _
  rw [kind_recv]

theorem expect_bar : (Rd I).expect (barCell c) 0 = 3 := by
  unfold Schedule.expect Schedule.amountOf
  rw [duties_bar, Finset.sum_congr rfl (fun d _ => amount_bar I c d)]
  revert c; decide
theorem expect_send : (Rd I).expect (sendCell k c) 0 = N k := by
  unfold Schedule.expect Schedule.amountOf; rw [duties_send, Finset.sum_singleton, amount_send]
theorem expect_recv : (Rd I).expect (recvCell k c) 0 = N k := by
  unfold Schedule.expect Schedule.amountOf; rw [duties_recv, Finset.sum_singleton, amount_recv]

theorem rest_send : bigSep ((Rd I).duties (sendCell k c) 0 \ ∅) (fun u => (Rd I).payload (sendCell k c) 0 u) = sendPay I k c := by
  rw [Finset.sdiff_empty, duties_send, bigSep_singleton, payload_send]
theorem rest_recv : bigSep ((Rd I).duties (recvCell k c) 0 \ ∅) (fun u => (Rd I).payload (recvCell k c) 0 u) = recvPay I k c := by
  rw [Finset.sdiff_empty, duties_recv, bigSep_singleton, payload_recv]

/-- The three words a device waits for bring a place for each of its sixteen copies. -/
theorem rest_bar : bigSep ((Rd I).duties (barCell c) 0 \ ∅) (fun u => (Rd I).payload (barCell c) 0 u)
    = (bigSep Finset.univ fun k => give k (tgt k c) : sProp 𝕄) := by
  have h (d : Dev nD) : barPay (F := F) c d = bigSep (Finset.univ.filter fun k => tgt k c = d) fun k => give k (tgt k c) := by
    unfold barPay
    exact bigSep_congr fun k hk => by rw [(Finset.mem_filter.mp hk).2]
  rw [Finset.sdiff_empty, duties_bar, bigSep_congr (fun d _ => (payload_bar I c d).trans (h d)),
    ← bigSep_biUnion_eq _ _ _ (fun a _ b _ hab => Finset.disjoint_left.mpr fun k ha hb =>
      hab ((Finset.mem_filter.mp ha).2.symm.trans (Finset.mem_filter.mp hb).2))]
  congr 1
  clear h; revert c; decide

/-- A device's sixteen places go out with its words: to either neighbour its eight, to the opposite corner none. -/
theorem gives_split : (bigSep Finset.univ fun k => give k c : sProp 𝕄)
    = bigSep (Finset.univ.erase c) fun b => barPay b c := by
  unfold barPay
  rw [← bigSep_biUnion_eq _ _ _ (fun a ha b hb hab => Finset.disjoint_left.mpr fun k h1 h2 =>
      hab (by rw [← tgt_tgt k a, (Finset.mem_filter.mp h1).2, ← (Finset.mem_filter.mp h2).2, tgt_tgt]))]
  congr 1
  revert c; decide

end Sched

/-! ## What each core owes at launch; the levels -/

/-- The copies in the order they leave. -/
def order : List (Fin 16) := [0, 1, 2, 3, 4, 5, 8, 9, 11, 6, 7, 10, 14, 15, 12, 13]

/-- The receive credits of the copies still to leave. -/
def due (c : Dev nD) : List (Fin 16) → CellTallies nD τ sig Unit
  | [] => 0
  | k :: l => due c l + tallyAt (recvCell k (tgt k c)) () (N k)

/-- The device `n` places on. -/
def nx (n : Nat) (c : Dev nD) : Dev nD := ⟨(c.val + n) % 4, Nat.mod_lt _ (by decide)⟩

theorem dev1_nx (c : Dev nD) : (⟨k0_dev1 c, k0_dev1_lt c⟩ : Dev nD) = nx 1 c := by revert c; decide
theorem dev2_nx (c : Dev nD) : (⟨k0_dev2 c, k0_dev2_lt c⟩ : Dev nD) = nx 2 c := by revert c; decide
theorem dev3_nx (c : Dev nD) : (⟨k0_dev3 c, k0_dev3_lt c⟩ : Dev nD) = nx 3 c := by revert c; decide

/-- All of them, and a word to each of the three others. -/
def O₀ (c : Dev nD) : CellTallies nD τ sig Unit :=
  due c order + tallyAt (barCell (nx 3 c)) () 1 + tallyAt (barCell (nx 2 c)) () 1 + tallyAt (barCell (nx 1 c)) () 1

def L (g : GSem nD τ sig) : Finset Unit := if g.1.2 = .tc then {()} else ∅

def lvR : Fin 16 → ℕ := ![2, 2, 2, 2, 3, 3, 4, 4, 4, 4, 4, 4, 5, 5, 5, 5]

def lvOf : SemLoc sig → ℕ
  | .reg _ => 1
  | .dma s => match kind s with
    | some (true, k) => lvR k
    | _ => 0
/-- Ready cells at 1, receive cells above, in the order of the stages; the rest at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 16) (c : Dev nD) (u : Unit) : lv (recvCell k c) u = lvR k := by
  show lvOf (.dma (recvS k)) = _
  show (match kind (recvS k) with | some (true, k) => lvR k | _ => 0) = _
  rw [kind_recv]

theorem due_pos {c : Dev nD} {g : GSem nD τ sig} {u : Unit} : ∀ {l : List (Fin 16)}, 0 < due c l g u → ∃ k ∈ l, g = recvCell k (tgt k c)
  | [], h => absurd h (Nat.lt_irrefl 0)
  | k :: l, h => by
    rw [due, Pi.add_apply, Finsupp.add_apply, tallyAt_apply] at h
    by_cases hg : g = recvCell k (tgt k c) ∧ u = ()
    · exact ⟨k, List.mem_cons_self, hg.1⟩
    · rw [if_neg hg, Nat.add_zero] at h
      obtain ⟨j, hj, e⟩ := due_pos h
      exact ⟨j, List.mem_cons_of_mem _ hj, e⟩

theorem tallyAt_pos {g g' : GSem nD τ sig} {u : Unit} {n : ℕ} (h : 0 < tallyAt (Ix := Unit) g' () n g u) : g = g' := by
  rw [tallyAt_apply] at h
  by_contra hn
  rw [if_neg fun e => hn e.1] at h
  exact Nat.lt_irrefl 0 h

theorem O₀_pos {c : Dev nD} {g : GSem nD τ sig} {u : Unit} (h : 0 < O₀ c g u) :
    (∃ k ∈ order, g = recvCell k (tgt k c)) ∨ ∃ d, g = barCell d := by
  unfold O₀ at h
  rw [Pi.add_apply, Finsupp.add_apply] at h
  rcases Nat.add_pos_iff_pos_or_pos.mp h with h | h
  · rw [Pi.add_apply, Finsupp.add_apply] at h
    rcases Nat.add_pos_iff_pos_or_pos.mp h with h | h
    · rw [Pi.add_apply, Finsupp.add_apply] at h
      rcases Nat.add_pos_iff_pos_or_pos.mp h with h | h
      · exact .inl (due_pos h)
      · exact .inr ⟨_, tallyAt_pos h⟩
    · exact .inr ⟨_, tallyAt_pos h⟩
  · exact .inr ⟨_, tallyAt_pos h⟩

/-- A device may wait for copy `k` while the copies still to leave are of later stages. -/
theorem mayWait_recv (c : Dev nD) (k : Fin 16) (l : List (Fin 16)) (hl : ∀ j ∈ l, lvR k < lvR j) :
    (levAts L lv : sProp 𝕄) ⊢ MayWait (c : Thread nD τ) (.dma (recvS k)) () (due c l) :=
  MayOwe.of_cut (L := L) (lev := lv) (lvR k) (fun p hp => by rw [Finset.mem_singleton.mp hp, L_tc]; exact Finset.mem_singleton_self _)
    (fun g u hg => by obtain ⟨j, hj, rfl⟩ := due_pos hg; exact Finset.mem_singleton_self _)
    (fun p hp => by rw [Finset.mem_singleton.mp hp]; exact (lv_recv k c ()).le)
    (fun g u hg => by obtain ⟨j, hj, rfl⟩ := due_pos hg; rw [lv_recv]; exact hl j hj)

theorem mayWait_bar (c : Dev nD) :
    (levAts L lv : sProp 𝕄) ⊢ MayWait (c : Thread nD τ) (.reg barS) () (due c order) :=
  MayOwe.of_cut (L := L) (lev := lv) 1 (fun p hp => by rw [Finset.mem_singleton.mp hp, L_tc]; exact Finset.mem_singleton_self _)
    (fun g u hg => by obtain ⟨j, hj, rfl⟩ := due_pos hg; exact Finset.mem_singleton_self _)
    (fun p hp => by rw [Finset.mem_singleton.mp hp]; exact le_refl 1)
    (fun g u hg => by obtain ⟨j, hj, rfl⟩ := due_pos hg; rw [lv_recv]; clear hg; revert hj; revert j; decide)

end Cert.KernelIdeal.Run
-- ==== Proof.Rules.lean ====
/-
  The steps of the kernel's body, each as one rule over any float values: loads and stores through a slice or a squeezed slice, the
  words at the start, a copy sent, a copy waited for on either end.
-/
module

public import proofs.«01_k».proof.Proof.Protocol

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Loads and stores -/

section Mem
variable {s s' : Shape} {e : EltTy} (c : Dev nD) (q : PosShare TreeShare)
  {α : Type} {Q : α → sProp (MT nD τ sig Unit (Elt F) ℕ UU ℕ)}

/-- A load through a slice held at `X` continues with `X`. -/
theorem wp_load_slice (M : Memref sig .tc .vmem s e) (r : Rect s) (hr : ∀ a, r.stride a = 1) (X : r.shape.Idx → Elt F e)
    {hl : M.view.LoadsAt r.toLoadRect} {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold owns
  iintro ⟨%f, %hf, H⟩ Hk
  subst hf
  iapply (wp_load_rect 𝒱₀ (c : Thread nD τ) none Set.univ (m := M) (r := r) (Finset.Subset.refl _)) $$ H
  iintro H
  iapply Hk
  iexists f
  isplitr; · ipureintro; rfl
  iexact H

/-- A store through a slice leaves it held at what is stored. -/
theorem wp_store_slice (M : Memref sig .tc .vmem s e) (r : Rect s) (hr : ∀ a, r.stride a = 1) (w : r.shape.Idx → Elt F e)
    {hx : (M.access r).Stores Finset.univ} {hm : Finset.univ = Finset.univ ∨ ∀ a, r.stride a = 1}
    {k : PUnit → Prog (TpuEff nD τ sig (Elt F) Λ₀ .tc) α} :
    iprop(∃ X, owns (c : Thread nD τ) (M.slice r hr) fullShare X)
      ⊢ (iprop((owns (c : Thread nD τ) (M.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) : sProp 𝕄) := by
  unfold owns
  iintro ⟨%X, %f, %hf, H⟩ Hk
  iapply (wp_store 𝒱₀ (c : Thread nD τ) none Set.univ (m := M) (r := r) (f := f) (S := (M.access r).set)
    (by exact Finset.Subset.refl _)) $$ H
  iintro H
  iapply Hk
  iexists ((M.access r).write (Elt F) f w Finset.univ)
  isplitr
  · ipureintro; exact View.read_write_univ (v := M.access r) f w
  iexact H

theorem owns_squeeze (M : Memref sig .tc .vmem s e) (h : s.Squeezes s') (w : s.Idx → Elt F e) :
    (owns (c : Thread nD τ) (M.squeeze s' h) q (sq h w) : sProp 𝕄) = owns (c : Thread nD τ) M q w := by
  have hset : (M.squeeze s' h).view.set = M.view.set := View.set_reshape _ _
  have hread (f : M.view.ty.Contents (Elt F)) : (M.squeeze s' h).view.read (Elt F) f = sq h (M.view.read (Elt F) f) := rfl
  have hinj (a b : s.Idx → Elt F e) (hab : sq h a = sq h b) : a = b := by rw [← unsq_sq h a, hab, unsq_sq]
  unfold owns
  refine BI.equiv_iff.mp ⟨?_, ?_⟩
  · show (iprop(∃ f, ⌜_⌝ ∗ _) : sProp 𝕄) ⊢ _
    iintro ⟨%f, %hf, H⟩
    iexists f
    isplitr; · ipureintro; exact hinj _ _ ((hread f).symm.trans hf)
    rw [hset]; iexact H
  · show (iprop(∃ f, ⌜_⌝ ∗ _) : sProp 𝕄) ⊢ _
    iintro ⟨%f, %hf, H⟩
    iexists f
    isplitr; · ipureintro; rw [hread]; rw [hf]
    rw [hset]; iexact H

/-- A load of a plane held at the contents `w` of its squeezed slice. -/
theorem wp_load_sq (M : Memref sig .tc .vmem s e) (r : Rect s) (hr : ∀ a, r.stride a = 1) (h : r.shape.Squeezes s') (w : r.shape.Idx → Elt F e)
    {hl : M.view.LoadsAt r.toLoadRect} {k : (r.shape.Idx → Elt F e) → Prog (TpuEff nD τ sig (Elt F) Λ₀ .tc) α} :
    (owns (c : Thread nD τ) ((M.slice r hr).squeeze s' h) q (sq h w) : sProp 𝕄)
      ⊢ iprop((owns (c : Thread nD τ) ((M.slice r hr).squeeze s' h) q (sq h w) -∗ wp frame (wpE (defs₀ (F := F)) 𝒱₀ (c : Thread nD τ) none) Set.univ (k w) Q)
          -∗ wp frame (wpE (defs₀ (F := F)) 𝒱₀ (c : Thread nD τ) none) Set.univ (.op (.load M r.toLoadRect hl) k) Q) := by
  rw [owns_squeeze]; exact wp_load_slice c q M r hr w

/-- The same by the contents at the squeezed shape. -/
theorem wp_load_unsq (M : Memref sig .tc .vmem s e) (r : Rect s) (hr : ∀ a, r.stride a = 1) (h : r.shape.Squeezes s') (X : s'.Idx → Elt F e)
    {hl : M.view.LoadsAt r.toLoadRect} {k : (r.shape.Idx → Elt F e) → Prog (TpuEff nD τ sig (Elt F) Λ₀ .tc) α} :
    (owns (c : Thread nD τ) ((M.slice r hr).squeeze s' h) q X : sProp 𝕄)
      ⊢ iprop((owns (c : Thread nD τ) ((M.slice r hr).squeeze s' h) q X -∗ wp frame (wpE (defs₀ (F := F)) 𝒱₀ (c : Thread nD τ) none) Set.univ (k (unsq h X)) Q)
          -∗ wp frame (wpE (defs₀ (F := F)) 𝒱₀ (c : Thread nD τ) none) Set.univ (.op (.load M r.toLoadRect hl) k) Q) := by
  have hw := wp_load_sq (F := F) c q M r hr h (unsq h X) (hl := hl) (k := k) (Q := Q)
  rwa [sq_unsq] at hw

theorem wp_store_sq (M : Memref sig .tc .vmem s e) (r : Rect s) (hr : ∀ a, r.stride a = 1) (h : r.shape.Squeezes s') (w : r.shape.Idx → Elt F e)
    {hx : (M.access r).Stores Finset.univ} {hm : Finset.univ = Finset.univ ∨ ∀ a, r.stride a = 1}
    {k : PUnit → Prog (TpuEff nD τ sig (Elt F) Λ₀ .tc) α} :
    iprop(∃ X, owns (c : Thread nD τ) ((M.slice r hr).squeeze s' h) fullShare X)
      ⊢ (iprop((owns (c : Thread nD τ) ((M.slice r hr).squeeze s' h) fullShare (sq h w) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) : sProp 𝕄) := by
  rw [owns_squeeze]
  have hX (X : s'.Idx → Elt F e) : (owns (c : Thread nD τ) ((M.slice r hr).squeeze s' h) fullShare X : sProp 𝕄)
      ⊢ owns (c : Thread nD τ) (M.slice r hr) fullShare (unsq h X) := by
    have := owns_squeeze (F := F) c fullShare (M.slice r hr) h (unsq h X)
    rw [sq_unsq] at this
    exact Entails.of_eq this
  refine BIBase.Entails.trans ?_ (wp_store_slice (F := F) c M r hr w)
  iintro ⟨%X, H⟩
  iexists (unsq h X)
  iapply (hX X) $$ H

/-- A load of a whole buffer. -/
theorem wp_load_all {i : Fin (sig.nNear Kind.tc .vmem)} {hκ : sig.names Kind.tc .vmem i = true} {off : Fin (sig.tyNear Kind.tc .vmem i).shape.rank → Nat} (h : off = fun _ => 0)
    (inb : ∀ a, off a + (sig.tyNear Kind.tc .vmem i).shape.size a ≤ (sig.tyNear Kind.tc .vmem i).shape.size a) (X : (sig.tyNear Kind.tc .vmem i).Contents (Elt F))
    {hl : (Memref.whole ⟨.vmem, i, hκ⟩).view.LoadsAt (Rect.unit off (sig.tyNear Kind.tc .vmem i).shape.size inb).toLoadRect} {k : ((Rect.unit off (sig.tyNear Kind.tc .vmem i).shape.size inb).toLoadRect.shape.Idx → Elt F (sig.tyNear Kind.tc .vmem i).elt) → Prog (TpuEff nD τ sig (Elt F) Λ₀ .tc) α} :
    (owns (c : Thread nD τ) (Memref.whole ⟨.vmem, i, hκ⟩) q X : sProp 𝕄)
      ⊢ iprop((owns (c : Thread nD τ) (Memref.whole ⟨.vmem, i, hκ⟩) q X -∗ wp frame (wpE (defs₀ (F := F)) 𝒱₀ (c : Thread nD τ) none) Set.univ (k X) Q)
          -∗ wp frame (wpE (defs₀ (F := F)) 𝒱₀ (c : Thread nD τ) none) Set.univ (.op (.load (Memref.whole ⟨.vmem, i, hκ⟩) (Rect.unit off (sig.tyNear Kind.tc .vmem i).shape.size inb).toLoadRect hl) k) Q) := by
  rw [owns_whole]
  iintro H Hk
  iapply (wp_load 𝒱₀ (c : Thread nD τ) none Set.univ (m := Memref.whole ⟨.vmem, i, hκ⟩) (Finset.subset_univ _)) $$ H
  iintro H
  rw [Memref.readAt_unit_zero (Elt F) (⟨.vmem, i, hκ⟩ : Ref sig .tc) h inb X]
  iapply Hk
  iexact H

theorem wp_store_all {i : Fin (sig.nNear Kind.tc .vmem)} {hκ : sig.names Kind.tc .vmem i = true} {off : Fin (sig.tyNear Kind.tc .vmem i).shape.rank → Nat} (h : off = fun _ => 0)
    (inb : ∀ a, off a + (sig.tyNear Kind.tc .vmem i).shape.size a ≤ (sig.tyNear Kind.tc .vmem i).shape.size a) (w : (sig.tyNear Kind.tc .vmem i).Contents (Elt F))
    {hx : ((Memref.whole ⟨.vmem, i, hκ⟩).access (Rect.unit off (sig.tyNear Kind.tc .vmem i).shape.size inb) : View sig .tc _ _ _).Stores Finset.univ}
    {hm : Finset.univ = Finset.univ ∨ ∀ a, (Rect.unit off (sig.tyNear Kind.tc .vmem i).shape.size inb).stride a = 1}
    {k : PUnit → Prog (TpuEff nD τ sig (Elt F) Λ₀ .tc) α} :
    iprop(∃ X : (sig.tyNear Kind.tc .vmem i).Contents (Elt F), owns (c : Thread nD τ) (Memref.whole ⟨.vmem, i, hκ⟩) fullShare X)
      ⊢ (iprop((owns (c : Thread nD τ) (Memref.whole ⟨.vmem, i, hκ⟩) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole ⟨.vmem, i, hκ⟩) (Rect.unit off (sig.tyNear Kind.tc .vmem i).shape.size inb) w Finset.univ hx hm) k) Q) : sProp 𝕄) := by
  simp only [owns_whole]
  iintro ⟨%X, H⟩ Hk
  iapply (wp_store 𝒱₀ (c : Thread nD τ) none Set.univ (m := Memref.whole ⟨.vmem, i, hκ⟩)
    (r := Rect.unit off (sig.tyNear Kind.tc .vmem i).shape.size inb) (f := X) (S := Finset.univ) (Finset.subset_univ _)) $$ H
  iintro H
  rw [Memref.write_access_unit_zero_univ (Elt F) (⟨.vmem, i, hκ⟩ : Ref sig .tc) h inb]
  iapply Hk
  iexact H

/-- A load of a part of a buffer held whole. -/
theorem wp_load_part {i : Fin (sig.nNear Kind.tc .vmem)} {hκ : sig.names Kind.tc .vmem i = true} (r : Rect (sig.tyNear Kind.tc .vmem i).shape) (X : (sig.tyNear Kind.tc .vmem i).Contents (Elt F))
    {hl : (Memref.whole ⟨.vmem, i, hκ⟩).view.LoadsAt r.toLoadRect} {k : (r.toLoadRect.shape.Idx → Elt F (sig.tyNear Kind.tc .vmem i).elt) → Prog (TpuEff nD τ sig (Elt F) Λ₀ .tc) α} :
    (owns (c : Thread nD τ) (Memref.whole ⟨.vmem, i, hκ⟩) q X : sProp 𝕄)
      ⊢ iprop((owns (c : Thread nD τ) (Memref.whole ⟨.vmem, i, hκ⟩) q X -∗ wp frame (wpE (defs₀ (F := F)) 𝒱₀ (c : Thread nD τ) none) Set.univ (k ((Memref.whole ⟨.vmem, i, hκ⟩).view.readAt (Elt F) r.toLoadRect X)) Q)
          -∗ wp frame (wpE (defs₀ (F := F)) 𝒱₀ (c : Thread nD τ) none) Set.univ (.op (.load (Memref.whole ⟨.vmem, i, hκ⟩) r.toLoadRect hl) k) Q) := by
  rw [owns_whole]
  exact wp_load 𝒱₀ (c : Thread nD τ) none Set.univ (m := Memref.whole ⟨.vmem, i, hκ⟩) (Finset.subset_univ _)

end Mem

/-! ## The protocol's steps -/

variable (I : Inputs F) (K : GSem nD τ sig → ℕ)

/-- What every core may use as often as it likes: the invariants of all cells, and the levels. -/
def Ctx : sProp 𝕄 :=
  iprop((bigSep Finset.univ fun c : Dev nD => cellInv ER (Rd I) (K (barCell c)) (barCell c))
    ∗ (bigSep Finset.univ fun p : Fin 16 × Dev nD => cellInv ER (Rd I) (K (sendCell p.1 p.2)) (sendCell p.1 p.2))
    ∗ (bigSep Finset.univ fun p : Fin 16 × Dev nD => cellInv ER (Rd I) (K (recvCell p.1 p.2)) (recvCell p.1 p.2))
    ∗ levAts L lv)

theorem take_one {ι : Type} [Fintype ι] [DecidableEq ι] (Φ : ι → sProp 𝕄) (i : ι) : bigSep Finset.univ Φ ⊢ Φ i :=
  bigSep_elim (Finset.mem_univ i)

instance Ctx_persistent : Persistent (Ctx I K) := by unfold Ctx; infer_instance

theorem ctx_bar (c : Dev nD) : Ctx I K ⊢ cellInv ER (Rd I) (K (barCell c)) (barCell c) := by
  unfold Ctx; iintro ⟨H, -, -, -⟩; iapply (take_one _ c) $$ H
theorem ctx_send (k : Fin 16) (c : Dev nD) : Ctx I K ⊢ cellInv ER (Rd I) (K (sendCell k c)) (sendCell k c) := by
  unfold Ctx; iintro ⟨-, H, -, -⟩; iapply (take_one _ ((k, c) : Fin 16 × Dev nD)) $$ H
theorem ctx_recv (k : Fin 16) (c : Dev nD) : Ctx I K ⊢ cellInv ER (Rd I) (K (recvCell k c)) (recvCell k c) := by
  unfold Ctx; iintro ⟨-, -, H, -⟩; iapply (take_one _ ((k, c) : Fin 16 × Dev nD)) $$ H
theorem ctx_lev : Ctx I K ⊢ levAts L lv := by
  unfold Ctx; iintro ⟨-, -, -, H⟩; iexact H

/-- What the core owes, whatever it has waited for. -/
def oweX (c : Dev nD) (O : CellTallies nD τ sig Unit) : sProp 𝕄 := iprop(∃ W, owes (c : Thread nD τ) O W)

/-- Copy `k` may be sent. -/
def sRdy (k : Fin 16) (c : Dev nD) : sProp 𝕄 :=
  iprop(dutyTok ER (sendCell k c) 0 (0 : Dev nD) ∗ reached ER (sendCell k c) 0 ∗ atPos ER (sendCell k c) 0 ∅ 0
    ∗ dutyTok ER (recvCell k (tgt k c)) 0 (0 : Dev nD))
/-- Copy `k` is under way. -/
def sFly (k : Fin 16) (c : Dev nD) : sProp 𝕄 := iprop(cred (tallyAt (sendCell k c) () (N k)) ∗ atPos ER (sendCell k c) 0 ∅ 0)
/-- The neighbour's copy `k` may be waited for. -/
def rExp (k : Fin 16) (c : Dev nD) : sProp 𝕄 := iprop(cred (tallyAt (recvCell k c) () (N k)) ∗ atPos ER (recvCell k c) 0 ∅ 0)

section Steps
variable {α : Type} {Q : α → sProp (MT nD τ sig Unit (Elt F) ℕ UU ℕ)}

/-- A word to device `d`, with the places for its copies. -/
theorem wp_word (c d : Dev nD) (hd : c ≠ d) (O : CellTallies nD τ sig Unit) {k : PUnit → Prog (TpuEff nD τ sig (Elt F) Λ₀ .tc) α} :
    iprop(Ctx I K ∗ oweX c (O + tallyAt (barCell d) () 1) ∗ dutyTok ER (barCell d) 0 c ∗ barPay d c ∗ reached ER (barCell d) 0)
      ⊢ iprop((oweX c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  unfold oweX
  iintro ⟨#HC, ⟨%W, HO⟩, Ht, Hp, Hr⟩ Hk
  iapply (Rounds.wp_signal 𝒱₀ ER (Rd I) (c : Thread nD τ) none (κ := K (barCell d)) (dst := (d : Thread nD τ)) (sem := barS) (r := 0) (d := c) (k' := 1)
    (by rw [duties_bar]; exact Finset.mem_erase.mpr ⟨hd, Finset.mem_univ _⟩) (amount_bar I d c) () O rfl) $$ [HO Ht Hp Hr]
  · isplitr; · iapply (ctx_bar I K d) $$ HC
    isplitl [HO]; · iexact HO
    isplitl [Ht]; · iexact Ht
    isplitl [Hp]; · rw [payload_bar]; iexact Hp
    iexact Hr
  iintro HO
  iapply Hk
  iexists W
  iexact HO

/-- The wait for the three words brings a place for each of the sixteen copies. -/
theorem wp_words (c : Dev nD) {k : PUnit → Prog (TpuEff nD τ sig (Elt F) Λ₀ .tc) α} :
    iprop(Ctx I K ∗ cred (tallyAt (barCell c) () 3) ∗ atPos ER (barCell c) 0 ∅ 0 ∗ oweX c (due c order))
      ⊢ iprop(((bigSep Finset.univ fun k => give k (tgt k c)) ∗ semVal (barCell c) 0 ∗ oweX c (due c order)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold oweX
  iintro ⟨#HC, Hc, Hat, ⟨%W, HO⟩⟩ Hk
  iapply (Rounds.wp_wait_rest_token 𝒱₀ ER (Rd I) (c : Thread nD τ) none (κ := K (barCell c))
      (wpE_semWait_eq 𝒱₀ (c : Thread nD τ) none Set.univ) (Set.mem_univ _) () (O := due c order) (W := W) (R := 0) (m := 0) (T := ∅)
      (by rw [Nat.zero_add, expect_bar])) $$ [Hc HO Hat]
  · isplitr; · iapply (ctx_bar I K c) $$ HC
    isplitl [Hc]; · iexact Hc
    isplitl [HO]; · iexact HO
    isplitr; · iapply (mayWait_bar c); iapply (ctx_lev I K) $$ HC
    iexact Hat
  rw [rest_bar]
  iintro ⟨HO, Hat, -, Hpay⟩
  imod (Rounds.cell_close ER (Rd I) (Set.mem_univ (K (barCell c))) (fun h => h) (R := 0 + 1) (duties_later I (barCell c))) $$ [Hat] with Hz
  · isplitr; · iapply (ctx_bar I K c) $$ HC
    iexact Hat
  iapply Hk
  isplitl [Hpay]; · iexact Hpay
  isplitl [Hz]; · iexact Hz
  iexists _
  iexact HO

/-- Copy `k` leaves for its neighbour: the source's share and the place there go in. -/
theorem wp_copy (k : Fin 16) (c d : Dev nD) (hd : d = tgt k c) (l : List (Fin 16))
    {hsc : (dst k : Memref sig (Dev.tc d : Thread nD τ).2.kind .vmem (shp k) .bf16).view.ref.isScScratch = false}
    {hsrc : (src k).view.WordExact} {hdst : (dst k).view.WordExact}
    {hsem : DmaTarget.Typed .vmem (.dma (recvS k)) (.remote (Dev.tc d : Thread nD τ) (dst k : Memref sig .tc .vmem (shp k) .bf16) (.dma (sendS k)) hsc)}
    {kk : PUnit → Prog (TpuEff nD τ sig (Elt F) Λ₀ .tc) α} :
    iprop(Ctx I K ∗ sRdy k c ∗ give k (tgt k c) ∗ owns (c : Thread nD τ) (src k) (qs k) (val I k c) ∗ oweX c (due c (k :: l)))
      ⊢ iprop((sFly k c ∗ oweX c (due c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (src k) (.remote (Dev.tc d : Thread nD τ) (dst k) (.dma (sendS k)) hsc) (.dma (recvS k)) hsrc hdst hsem) kk) Q) := by
  subst hd
  unfold sRdy sFly give oweX
  iintro ⟨#HC, ⟨HtS, #HrS, HatS, HtV⟩, ⟨⟨%Y, HY⟩, #HrV⟩, HX, ⟨%W, HO⟩⟩ Hk
  unfold owns
  icases HY with ⟨%fd, %hfd, Hd⟩
  icases HX with ⟨%fs, %hfs, Hs⟩
  iapply (Rounds.wp_send_pointsTo 𝒱₀ ER (Rd I) (c : Thread nD τ) none (κ₁ := K (sendCell k c)) (κ₂ := K (recvCell k (tgt k c)))
    (c' := (tgt k c : Thread nD τ)) (src := src k) (dst := dst k) (sS := .dma (sendS k)) (sem := .dma (recvS k)) (q := qs k)
    (r₁ := 0) (r₂ := 0) (d₁ := 0) (d₂ := 0) (fs := fs) (fd := fd)
    (by rw [duties_send]; exact Finset.mem_singleton_self _) (by rw [duties_recv]; exact Finset.mem_singleton_self _)
    () () (N k) rfl (amount_send I k c 0) (amount_recv I k (tgt k c) 0) (due c l) rfl (W := W)
    (by
      rw [payload_send]; unfold sendPay
      rw [← hfs]; exact owns_intro _ _ _ _)
    (by
      rw [payload_recv]; unfold recvPay
      rw [tgt_tgt, ← hfs]
      refine (owns_intro _ _ _ _).trans (Entails.of_eq ?_)
      rw [View.read_write_univ])) $$ [Hs Hd HO HtS HtV]
  · isplitr; · iapply (ctx_send I K k c) $$ HC
    isplitr; · iapply (ctx_recv I K k (tgt k c)) $$ HC
    isplitl [Hs]; · iexact Hs
    isplitl [Hd]; · iexact Hd
    isplitl [HO]; · iexact HO
    isplitl [HtS]; · iexact HtS
    isplitr; · iexact HrS
    isplitl [HtV]; · iexact HtV
    iexact HrV
  iintro ⟨Hc, HO⟩
  iapply Hk
  isplitr [HO]
  · isplitl [Hc]; · iexact Hc
    iexact HatS
  iexists W
  iexact HO

/-- The wait for the neighbour's copy `k`, while only copies of later stages are to leave. -/
theorem wp_arrive (k : Fin 16) (c : Dev nD) (l : List (Fin 16)) (hl : ∀ j ∈ l, lvR k < lvR j)
    {sh' : Shape} {e' : EltTy} {sp' : Space} {src' : Memref sig .tc sp' sh' e'} {hsrc : src'.view.WordExact} {hdst : (dst k).view.WordExact}
    {kk : PUnit → Prog (TpuEff nD τ sig (Elt F) Λ₀ .tc) α} :
    iprop(Ctx I K ∗ rExp k c ∗ oweX c (due c l))
      ⊢ iprop((owns (c : Thread nD τ) (dst k) fullShare (val I k (tgt k c)) ∗ semVal (recvCell k c) 0 ∗ oweX c (due c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) src' (dst k) hsrc hdst) kk) Q) := by
  unfold oweX rExp
  iintro ⟨#HC, ⟨Hc, Hat⟩, ⟨%W, HO⟩⟩ Hk
  iapply (Rounds.wp_wait_rest_token 𝒱₀ ER (Rd I) (c : Thread nD τ) none (κ := K (recvCell k c))
      (wpE_waitDma2_eq (src := src') (dst := dst k) 𝒱₀ (c : Thread nD τ) none Set.univ) (Set.mem_univ _) () (O := due c l) (W := W) (R := 0) (m := 0) (T := ∅)
      (by rw [Nat.zero_add, expect_recv]; rfl)) $$ [Hc HO Hat]
  · isplitr; · iapply (ctx_recv I K k c) $$ HC
    isplitl [Hc]; · iexact Hc
    isplitl [HO]; · iexact HO
    isplitr; · iapply (mayWait_recv c k l hl); iapply (ctx_lev I K) $$ HC
    iexact Hat
  rw [rest_recv]
  iintro ⟨HO, Hat, -, Hpay⟩
  imod (Rounds.cell_close ER (Rd I) (Set.mem_univ (K (recvCell k c))) (fun h => h) (R := 0 + 1) (duties_later I (recvCell k c))) $$ [Hat] with Hz
  · isplitr; · iapply (ctx_recv I K k c) $$ HC
    iexact Hat
  iapply Hk
  isplitl [Hpay]; · unfold recvPay; iexact Hpay
  isplitl [Hz]; · iexact Hz
  iexists _
  iexact HO

/-- The wait at the end for the device's own copy `k` to have left, nothing being owed any more. -/
theorem wp_left (k : Fin 16) (c : Dev nD)
    {sh' : Shape} {e' : EltTy} {sp' : Space} {src' : Memref sig .tc sp' sh' e'} {hsrc : src'.view.WordExact} {hdst : (src k).view.WordExact}
    (hN : (src k).view.dmaCredit = N k) {kk : PUnit → Prog (TpuEff nD τ sig (Elt F) Λ₀ .tc) α} :
    iprop(Ctx I K ∗ sFly k c ∗ oweX c 0)
      ⊢ iprop((owns (c : Thread nD τ) (src k) (qs k) (val I k c) ∗ semVal (sendCell k c) 0 ∗ oweX c 0
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) src' (src k) hsrc hdst) kk) Q) := by
  unfold oweX sFly
  rw [← hN]
  iintro ⟨#HC, ⟨Hc, Hat⟩, ⟨%W, HO⟩⟩ Hk
  iapply (Rounds.wp_wait_rest_token 𝒱₀ ER (Rd I) (c : Thread nD τ) none (κ := K (sendCell k c))
      (wpE_waitDma2_eq (src := src') (dst := src k) 𝒱₀ (c : Thread nD τ) none Set.univ) (Set.mem_univ _) () (O := 0) (W := W) (R := 0) (m := 0) (T := ∅)
      (by rw [Nat.zero_add, expect_send, ← hN])) $$ [Hc HO Hat]
  · isplitr; · iapply (ctx_send I K k c) $$ HC
    isplitl [Hc]; · iexact Hc
    isplitl [HO]; · iexact HO
    isplitr; · rw [MayWait_zero]; iempintro
    iexact Hat
  rw [rest_send]
  iintro ⟨HO, Hat, -, Hpay⟩
  imod (Rounds.cell_close ER (Rd I) (Set.mem_univ (K (sendCell k c))) (fun h => h) (R := 0 + 1) (duties_later I (sendCell k c))) $$ [Hat] with Hz
  · isplitr; · iapply (ctx_send I K k c) $$ HC
    iexact Hat
  iapply Hk
  isplitl [Hpay]; · unfold sendPay; iexact Hpay
  isplitl [Hz]; · iexact Hz
  iexists _
  iexact HO

end Steps

end Cert.KernelIdeal.Run
-- ==== Proof.Steps.lean ====
/-
  The kernel's body at its own buffers, piece by piece: the handles every piece takes, loads whose value nothing uses, and what a
  device holds between pieces.
-/
module

public import proofs.«01_k».proof.Proof.Rules

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the body at the kernel's buffers and semaphores. -/
abbrev onBufs {T : Type 1}
    (f : (arg0 : Memref sig .tc .vmem S4x256x1024 .f32) → arg0.IsWhole → (arg1 : Memref sig .tc .vmem S1024x1024 .f32) → arg1.IsWhole →
      (arg2 : Memref sig .tc .vmem S1024x1024 .f32) → arg2.IsWhole → (arg3 : Memref sig .tc .vmem S1024x256 .f32) → arg3.IsWhole →
      (arg4 : Memref sig .tc .vmem S1024x256 .f32) → arg4.IsWhole → (arg5 : Memref sig .tc .vmem S1024x1024 .f32) → arg5.IsWhole →
      (arg6 : Memref sig .tc .vmem S4x2x128x1024 .bf16) → arg6.IsWhole → (arg7 : Memref sig .tc .vmem S2x128x1024 .bf16) → arg7.IsWhole →
      (arg8 : Memref sig .tc .vmem S2x128x1024 .bf16) → arg8.IsWhole → (arg9 : Memref sig .tc .vmem S128x1024 .bf16) → arg9.IsWhole →
      (arg10 : Memref sig .tc .vmem S128x1024 .bf16) → arg10.IsWhole → (arg11 : Memref sig .tc .vmem S128x1024 .bf16) → arg11.IsWhole →
      (arg12 : Memref sig .tc .vmem S128x1024 .bf16) → arg12.IsWhole → (arg13 : Memref sig .tc .vmem S128x1024 .bf16) → arg13.IsWhole →
      (arg14 : Memref sig .tc .vmem S128x1024 .bf16) → arg14.IsWhole → (arg15 : Memref sig .tc .vmem S128x1024 .bf16) → arg15.IsWhole →
      (arg16 : Memref sig .tc .vmem S128x1024 .bf16) → arg16.IsWhole → (arg17 : Memref sig .tc .vmem S2x128x1024 .bf16) → arg17.IsWhole →
      (arg18 : Memref sig .tc .vmem S2x128x1024 .bf16) → arg18.IsWhole → (arg19 : DmaSems sig S16) → (arg20 : DmaSems sig S16) → T) : T :=
  f xM (Memref.isWhole_whole _) wqM (Memref.isWhole_whole _) woM (Memref.isWhole_whole _) wkM (Memref.isWhole_whole _)
    wvM (Memref.isWhole_whole _) oM (Memref.isWhole_whole _) pbM (Memref.isWhole_whole _) s1pM (Memref.isWhole_whole _)
    s1qM (Memref.isWhole_whole _) snpM (Memref.isWhole_whole _) s2pM (Memref.isWhole_whole _) snqM (Memref.isWhole_whole _)
    s2qM (Memref.isWhole_whole _) rpM (Memref.isWhole_whole _) rqM (Memref.isWhole_whole _) s3pM (Memref.isWhole_whole _)
    s3qM (Memref.isWhole_whole _) s4pM (Memref.isWhole_whole _) s4qM (Memref.isWhole_whole _) cc0_scratch13 cc0_scratch14

/-- The run of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_done (c : Dev nD) {α : Type} (a : α) (Q : α → sProp 𝕄) : Q a ⊢ WP c (.ret a) Q := by
  show Q a ⊢ wp frame (wpE (defs₀ (F := F)) 𝒱₀ (c : Thread nD τ) none) Set.univ (.ret a) Q
  rw [wp_ret]; iintro H; imodintro; iexact H

theorem nx_ne (n : Nat) (c : Dev nD) (hn : n % 4 ≠ 0) : c ≠ nx n c := by
  intro h
  have h1 : c.val = (c.val + n) % 4 := congrArg Fin.val h
  have h2 : c.val < 4 := c.isLt
  omega

section Mem
variable {s s' : Shape} {e : EltTy} (c : Dev nD) (q : PosShare TreeShare)
  {α : Type} {Q : α → sProp (MT nD τ sig Unit (Elt F) ℕ UU ℕ)}

/-- A buffer held in full at some contents. -/
def any (M : Memref sig .tc .vmem s e) : sProp 𝕄 := iprop(∃ X, owns (c : Thread nD τ) M fullShare X)

theorem any_of (M : Memref sig .tc .vmem s e) (X : s.Idx → Elt F e) : owns (c : Thread nD τ) M fullShare X ⊢ any (F := F) c M := by
  unfold any; iintro H; iexists X; iexact H

/-- A load, whose value nothing uses, of a plane. -/
theorem wp_peek_sq (M : Memref sig .tc .vmem s e) (r : Rect s) (hr : ∀ a, r.stride a = 1) (h : r.shape.Squeezes s')
    {hl : M.view.LoadsAt r.toLoadRect} {k : (r.shape.Idx → Elt F e) → Prog (TpuEff nD τ sig (Elt F) Λ₀ .tc) α} :
    any (F := F) c ((M.slice r hr).squeeze s' h) ⊢ iprop((∀ v, any (F := F) c ((M.slice r hr).squeeze s' h) -∗ WP c (k v) Q)
          -∗ WP c (.op (.load M r.toLoadRect hl) k) Q) := by
  unfold any
  iintro ⟨%X, H⟩ Hk
  iapply (wp_load_unsq c fullShare M r hr h X) $$ H
  iintro H
  iapply Hk
  iexists X
  iexact H

/-- The same of a slice whose place is given by an equal offset. -/
theorem wp_peek_off {off off' size : Fin s.rank → Nat} (M : Memref sig .tc .vmem s e) (ho : off = off')
    (inb : ∀ a, off a + size a ≤ s.size a) (inb' : ∀ a, off' a + size a ≤ s.size a)
    {hl : M.view.LoadsAt (Rect.unit off size inb).toLoadRect} {k : ((Rect.unit off size inb).shape.Idx → Elt F e) → Prog (TpuEff nD τ sig (Elt F) Λ₀ .tc) α} :
    any (F := F) c (M.slice (Rect.unit off' size inb') (fun _ => rfl))
      ⊢ iprop((∀ v, any (F := F) c (M.slice (Rect.unit off' size inb') (fun _ => rfl)) -∗ WP c (k v) Q)
          -∗ WP c (.op (.load M (Rect.unit off size inb).toLoadRect hl) k) Q) := by
  subst ho
  unfold any
  iintro ⟨%X, H⟩ Hk
  iapply (wp_load_slice c fullShare M (Rect.unit off size inb) (fun _ => rfl) X) $$ H
  iintro H
  iapply Hk
  iexists X
  iexact H

/-- A store to such a slice. -/
theorem wp_store_off {off off' size : Fin s.rank → Nat} (M : Memref sig .tc .vmem s e) (ho : off = off')
    (inb : ∀ a, off a + size a ≤ s.size a) (inb' : ∀ a, off' a + size a ≤ s.size a) (w : (⟨s.rank, size⟩ : Shape).Idx → Elt F e)
    {hx : (M.access (Rect.unit off size inb)).Stores Finset.univ} {hm : Finset.univ = Finset.univ ∨ ∀ a, (Rect.unit off size inb).stride a = 1}
    {k : PUnit → Prog (TpuEff nD τ sig (Elt F) Λ₀ .tc) α} :
    any (F := F) c (M.slice (Rect.unit off' size inb') (fun _ => rfl))
      ⊢ iprop((owns (c : Thread nD τ) (M.slice (Rect.unit off' size inb') (fun _ => rfl)) fullShare w -∗ WP c (k ⟨⟩) Q)
          -∗ WP c (.op (.store M (Rect.unit off size inb) w Finset.univ hx hm) k) Q) := by
  subst ho
  exact wp_store_slice c M (Rect.unit off size inb) (fun _ => rfl) w

/-- A load, whose value nothing uses, of a whole buffer. -/
theorem wp_peek_all {i : Fin (sig.nNear Kind.tc .vmem)} {hκ : sig.names Kind.tc .vmem i = true} {off : Fin (sig.tyNear Kind.tc .vmem i).shape.rank → Nat} (h : off = fun _ => 0)
    (inb : ∀ a, off a + (sig.tyNear Kind.tc .vmem i).shape.size a ≤ (sig.tyNear Kind.tc .vmem i).shape.size a)
    {hl : (Memref.whole ⟨.vmem, i, hκ⟩).view.LoadsAt (Rect.unit off (sig.tyNear Kind.tc .vmem i).shape.size inb).toLoadRect} {k : ((Rect.unit off (sig.tyNear Kind.tc .vmem i).shape.size inb).toLoadRect.shape.Idx → Elt F (sig.tyNear Kind.tc .vmem i).elt) → Prog (TpuEff nD τ sig (Elt F) Λ₀ .tc) α} :
    any (F := F) c (Memref.whole ⟨.vmem, i, hκ⟩)
      ⊢ iprop((∀ v, any (F := F) c (Memref.whole ⟨.vmem, i, hκ⟩) -∗ WP c (k v) Q)
          -∗ WP c (.op (.load (Memref.whole ⟨.vmem, i, hκ⟩) (Rect.unit off (sig.tyNear Kind.tc .vmem i).shape.size inb).toLoadRect hl) k) Q) := by
  unfold any
  iintro ⟨%X, H⟩ Hk
  iapply (wp_load_all c fullShare h inb X) $$ H
  iintro H
  iapply Hk
  iexists X
  iexact H

/-- A load of a part of a buffer held whole, by the name of what it reads. -/
theorem wp_load_as {i : Fin (sig.nNear Kind.tc .vmem)} {hκ : sig.names Kind.tc .vmem i = true} (r : Rect (sig.tyNear Kind.tc .vmem i).shape) (X : (sig.tyNear Kind.tc .vmem i).Contents (Elt F))
    (v : r.toLoadRect.shape.Idx → Elt F (sig.tyNear Kind.tc .vmem i).elt) (hv : (Memref.whole ⟨.vmem, i, hκ⟩).view.readAt (Elt F) r.toLoadRect X = v)
    {hl : (Memref.whole ⟨.vmem, i, hκ⟩).view.LoadsAt r.toLoadRect} {k : (r.toLoadRect.shape.Idx → Elt F (sig.tyNear Kind.tc .vmem i).elt) → Prog (TpuEff nD τ sig (Elt F) Λ₀ .tc) α} :
    (owns (c : Thread nD τ) (Memref.whole ⟨.vmem, i, hκ⟩) q X : sProp 𝕄)
      ⊢ iprop((owns (c : Thread nD τ) (Memref.whole ⟨.vmem, i, hκ⟩) q X -∗ WP c (k v) Q)
          -∗ WP c (.op (.load (Memref.whole ⟨.vmem, i, hκ⟩) r.toLoadRect hl) k) Q) := by
  subst hv
  exact wp_load_part c q r X

end Mem

variable (I : Inputs F) (K : GSem nD τ sig → ℕ)

/-- Copy `k` may be sent, and its place at the neighbour is known. -/
def sGo (k : Fin 16) (c : Dev nD) : sProp 𝕄 := iprop(sRdy k c ∗ give k (tgt k c))

section Steps
variable {α : Type} {Q : α → sProp (MT nD τ sig Unit (Elt F) ℕ UU ℕ)}

/-- A copy leaves, its place at the neighbour being known. -/
theorem wp_go (k : Fin 16) (c d : Dev nD) (hd : d = tgt k c) (l : List (Fin 16))
    {hsc : (dst k : Memref sig (Dev.tc d : Thread nD τ).2.kind .vmem (shp k) .bf16).view.ref.isScScratch = false}
    {hsrc : (src k).view.WordExact} {hdst : (dst k).view.WordExact}
    {hsem : DmaTarget.Typed .vmem (.dma (recvS k)) (.remote (Dev.tc d : Thread nD τ) (dst k : Memref sig .tc .vmem (shp k) .bf16) (.dma (sendS k)) hsc)}
    {kk : PUnit → Prog (TpuEff nD τ sig (Elt F) Λ₀ .tc) α} :
    Ctx I K ⊢ iprop(sGo k c -∗ owns (c : Thread nD τ) (src k) (qs k) (val I k c) -∗ oweX c (due c (k :: l))
          -∗ (sFly k c -∗ oweX c (due c l) -∗ WP c (kk ⟨⟩) Q)
          -∗ WP c (.op (.enqueueDma (src k) (.remote (Dev.tc d : Thread nD τ) (dst k) (.dma (sendS k)) hsc) (.dma (recvS k)) hsrc hdst hsem) kk) Q) := by
  unfold sGo
  iintro HC ⟨Hr, Hg⟩ Hs HO Hk
  iapply (wp_copy I K k c d hd l) $$ [HC Hr Hg Hs HO]
  · isplitl [HC]; · iexact HC
    isplitl [Hr]; · iexact Hr
    isplitl [Hg]; · iexact Hg
    isplitl [Hs]; · iexact Hs
    iexact HO
  iintro ⟨Hf, HO⟩
  iapply Hk $$ Hf HO

/-- A copy comes in. -/
theorem wp_come (k : Fin 16) (c : Dev nD) (l : List (Fin 16)) (hl : ∀ j ∈ l, lvR k < lvR j)
    {sh' : Shape} {e' : EltTy} {sp' : Space} {src' : Memref sig .tc sp' sh' e'} {hsrc : src'.view.WordExact} {hdst : (dst k).view.WordExact}
    {kk : PUnit → Prog (TpuEff nD τ sig (Elt F) Λ₀ .tc) α} :
    Ctx I K ⊢ iprop(rExp k c -∗ oweX c (due c l)
          -∗ (owns (c : Thread nD τ) (dst k) fullShare (val I k (tgt k c)) -∗ semVal (recvCell k c) 0 -∗ oweX c (due c l) -∗ WP c (kk ⟨⟩) Q)
          -∗ WP c (.op (.waitDma2 (recvS k) src' (dst k) hsrc hdst) kk) Q) := by
  iintro HC Hr HO Hk
  iapply (wp_arrive I K k c l hl) $$ [HC Hr HO]
  · isplitl [HC]; · iexact HC
    isplitl [Hr]; · iexact Hr
    iexact HO
  iintro ⟨Ho, Hz, HO⟩
  iapply Hk $$ Ho Hz HO

/-- A copy has left. -/
theorem wp_gone (k : Fin 16) (c : Dev nD)
    {sh' : Shape} {e' : EltTy} {sp' : Space} {src' : Memref sig .tc sp' sh' e'} {hsrc : src'.view.WordExact} {hdst : (src k).view.WordExact}
    (hN : (src k).view.dmaCredit = N k) {kk : PUnit → Prog (TpuEff nD τ sig (Elt F) Λ₀ .tc) α} :
    Ctx I K ⊢ iprop(sFly k c -∗ oweX c 0
          -∗ (owns (c : Thread nD τ) (src k) (qs k) (val I k c) -∗ semVal (sendCell k c) 0 -∗ oweX c 0 -∗ WP c (kk ⟨⟩) Q)
          -∗ WP c (.op (.waitDma2 (sendS k) src' (src k) hsrc hdst) kk) Q) := by
  iintro HC Hr HO Hk
  iapply (wp_left I K k c hN) $$ [HC Hr HO]
  · isplitl [HC]; · iexact HC
    isplitl [Hr]; · iexact Hr
    iexact HO
  iintro ⟨Ho, Hz, HO⟩
  iapply Hk $$ Ho Hz HO

/-- What a word to device `d` takes. -/
def word (d c : Dev nD) : sProp 𝕄 := iprop(dutyTok ER (barCell d) 0 c ∗ barPay d c ∗ reached ER (barCell d) 0)

theorem wp_say (c d d' : Dev nD) (hd' : d' = d) (hd : c ≠ d) (O : CellTallies nD τ sig Unit) {k : PUnit → Prog (TpuEff nD τ sig (Elt F) Λ₀ .tc) α} :
    Ctx I K ⊢ iprop(word d c -∗ oweX c (O + tallyAt (barCell d) () 1) -∗ (oweX c O -∗ WP c (k ⟨⟩) Q)
          -∗ WP c (.op (.semSignal (d' : Thread nD τ) barS 1) k) Q) := by
  subst hd'
  unfold word
  iintro HC ⟨Ht, Hp, Hr⟩ HO Hk
  iapply (wp_word I K c d' hd O) $$ [HC Ht Hp Hr HO]
  · isplitl [HC]; · iexact HC
    isplitl [HO]; · iexact HO
    isplitl [Ht]; · iexact Ht
    isplitl [Hp]; · iexact Hp
    iexact Hr
  iexact Hk

end Steps

end Cert.KernelIdeal.Run
-- ==== Proof.Pieces.lean ====
/-
  Buffers split into the parts the kernel handles separately, and put together again: halves of 128 rows, the two planes of a
  landing buffer, the eight planes of partial products, the eight slabs of the result.
-/
module

public import proofs.«01_k».proof.Proof.Steps

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section General
variable {s : Shape} {e : EltTy} (c : Dev nD) (q : PosShare TreeShare)
  {T : Type} [Fintype T] [DecidableEq T] (r : T → Rect s) (hr : ∀ t a, (r t).stride a = 1)
  (hd : ∀ t t', t ≠ t' → Disjoint (r t).set (r t').set) (hcov : Finset.univ.biUnion (fun t => (r t).set) = Finset.univ)

include hd in
/-- Contents given part by part are the parts of one whole. -/
theorem glue {α : Type} [Nonempty α] (X : (t : T) → (r t).shape.Idx → α) : ∃ Y : s.Idx → α, ∀ t j, Y ((r t).emb j) = X t j := by
  classical
  refine ⟨fun i => if h : ∃ p : (t : T) × (r t).shape.Idx, (r p.1).emb p.2 = i then X h.choose.1 h.choose.2 else Classical.arbitrary _, ?_⟩
  intro t j
  have h : ∃ p : (t : T) × (r t).shape.Idx, (r p.1).emb p.2 = (r t).emb j := ⟨⟨t, j⟩, rfl⟩
  beta_reduce
  rw [dif_pos h]
  have hs : h.choose = ⟨t, j⟩ := by
    have hc := h.choose_spec
    generalize h.choose = p at hc
    obtain ⟨t', j'⟩ := p
    have ht : t' = t := by
      by_contra hne
      have h1 : (r t').emb j' ∈ (r t').set := by rw [← Rect.map_emb_univ]; exact Finset.mem_map_of_mem _ (Finset.mem_univ _)
      have h2 : (r t').emb j' ∈ (r t).set := by
        rw [show (r t').emb j' = (r t).emb j from hc, ← Rect.map_emb_univ]; exact Finset.mem_map_of_mem _ (Finset.mem_univ _)
      exact Finset.disjoint_left.mp (hd t' t hne) h1 h2
    subst ht
    have : j' = j := (r t').emb.injective hc
    rw [this]
  rw [hs]

include hd hcov in
theorem any_rects (M : Memref sig .tc .vmem s e) :
    any (F := F) c M ⊢ bigSep Finset.univ fun t => any (F := F) c (M.slice (r t) (hr t)) := by
  unfold any
  iintro ⟨%X, H⟩
  ihave H' := (show (owns (c : Thread nD τ) M fullShare X : sProp 𝕄) ⊢ _ from owns_rects (c : Thread nD τ) M fullShare r hr hd hcov X) $$ H
  iapply (show (bigSep Finset.univ (fun t => owns (c : Thread nD τ) (M.slice (r t) (hr t)) fullShare (fun j => X ((r t).emb j))) : sProp 𝕄) ⊢ _ from
    bigSep_mono fun t _ => any_of (F := F) c (M.slice (r t) (hr t)) (fun j => X ((r t).emb j))) $$ H'

include hd hcov in
theorem any_of_rects [∀ e, Nonempty (Elt F e)] (M : Memref sig .tc .vmem s e) :
    (bigSep Finset.univ fun t => any (F := F) c (M.slice (r t) (hr t))) ⊢ any (F := F) c M := by
  have hex : (bigSep Finset.univ fun t => any (F := F) c (M.slice (r t) (hr t)))
      ⊢ (iprop(∃ X : (t : T) → (r t).shape.Idx → Elt F e, bigSep Finset.univ fun t => owns (c : Thread nD τ) (M.slice (r t) (hr t)) fullShare (X t)) : sProp 𝕄) := by
    unfold any
    exact bigSep_exists_pi _ _
  refine hex.trans ?_
  iintro ⟨%X, H⟩
  obtain ⟨Y, hY⟩ := glue r hd X
  have hX : X = fun t j => Y ((r t).emb j) := by funext t j; exact (hY t j).symm
  subst hX
  unfold any
  iexists Y
  iapply (show (bigSep Finset.univ (fun t => owns (c : Thread nD τ) (M.slice (r t) (hr t)) fullShare (fun j => Y ((r t).emb j))) : sProp 𝕄) ⊢ _ from
    owns_of_rects (c : Thread nD τ) M fullShare r hr hd hcov Y) $$ H

end General

/-! ## Halves of 128 rows -/

theorem hR_disj (t t' : Fin 2) (h : t ≠ t') : Disjoint (hR t).set (hR t').set :=
  Rect.unit_disjoint (0 : Fin 2) (by revert t t'; decide)

theorem hR_cov : Finset.univ.biUnion (fun t => (hR t).set) = Finset.univ := by
  refine Finset.eq_univ_of_forall fun i => Finset.mem_biUnion.mpr ?_
  have h0 : (i 0).val < 128 := (i 0).isLt
  have h1 : (i 1).val < 1024 := (i 1).isLt
  by_cases h : (i 0).val < 64
  · refine ⟨0, Finset.mem_univ _, Rect.mem_set_unit.mpr fun a => ?_⟩
    match a with
    | 0 => exact ⟨Nat.zero_le _, by show (i 0).val < 0 + 64; omega⟩
    | 1 => exact ⟨Nat.zero_le _, by show (i 1).val < 0 + 1024; omega⟩
  · refine ⟨1, Finset.mem_univ _, Rect.mem_set_unit.mpr fun a => ?_⟩
    match a with
    | 0 => exact ⟨by show 64 ≤ (i 0).val; omega, by show (i 0).val < 64 + 64; omega⟩
    | 1 => exact ⟨Nat.zero_le _, by show (i 1).val < 0 + 1024; omega⟩

variable (c : Dev nD) (q : PosShare TreeShare)

theorem halves (M : Memref sig .tc .vmem S128x1024 .bf16) (X : Vec F S128x1024 .bf16) :
    (owns (c : Thread nD τ) M q X : sProp 𝕄)
      ⊢ iprop(owns (c : Thread nD τ) (hfM M 0) q (hf 0 X) ∗ owns (c : Thread nD τ) (hfM M 1) q (hf 1 X)) := by
  refine (owns_rects (c : Thread nD τ) M q hR (fun _ _ => rfl) hR_disj hR_cov X).trans (Entails.of_eq ?_)
  rw [bigSep_fin_two]; rfl

theorem of_halves [∀ e, Nonempty (Elt F e)] (M : Memref sig .tc .vmem S128x1024 .bf16) (X : Vec F S128x1024 .bf16) :
    iprop(owns (c : Thread nD τ) (hfM M 0) q (hf 0 X) ∗ owns (c : Thread nD τ) (hfM M 1) q (hf 1 X))
      ⊢ (owns (c : Thread nD τ) M q X : sProp 𝕄) := by
  refine BIBase.Entails.trans (Entails.of_eq ?_) (owns_of_rects (c : Thread nD τ) M q hR (fun _ _ => rfl) hR_disj hR_cov X)
  rw [bigSep_fin_two]; rfl

theorem any_halves (M : Memref sig .tc .vmem S128x1024 .bf16) :
    any (F := F) c M ⊢ iprop(any (F := F) c (hfM M 0) ∗ any (F := F) c (hfM M 1)) := by
  refine (any_rects c hR (fun _ _ => rfl) hR_disj hR_cov M).trans (Entails.of_eq ?_)
  rw [bigSep_fin_two]; rfl

/-! ## The two planes of a landing buffer -/

theorem lR_disj (t t' : Fin 2) (h : t ≠ t') : Disjoint (lR t).set (lR t').set :=
  Rect.unit_disjoint (0 : Fin 3) (by revert t t'; decide)

theorem lR_cov : Finset.univ.biUnion (fun t => (lR t).set) = Finset.univ := by
  refine Finset.eq_univ_of_forall fun i => Finset.mem_biUnion.mpr ?_
  have h0 : (i 0).val < 2 := (i 0).isLt
  have h1 : (i 1).val < 128 := (i 1).isLt
  have h2 : (i 2).val < 1024 := (i 2).isLt
  refine ⟨⟨(i 0).val, h0⟩, Finset.mem_univ _, Rect.mem_set_unit.mpr fun a => ?_⟩
  match a with
  | 0 => exact ⟨Nat.le_refl _, by show (i 0).val < (i 0).val + 1; omega⟩
  | 1 => exact ⟨Nat.zero_le _, by show (i 1).val < 0 + 128; omega⟩
  | 2 => exact ⟨Nat.zero_le _, by show (i 2).val < 0 + 1024; omega⟩

theorem any_squeeze {s s' : Shape} {e : EltTy} (M : Memref sig .tc .vmem s e) (h : s.Squeezes s') :
    any (F := F) c (M.squeeze s' h) = any (F := F) c M := by
  unfold any
  refine BI.equiv_iff.mp ⟨?_, ?_⟩
  · show (iprop(∃ X, _) : sProp 𝕄) ⊢ _
    iintro ⟨%X, H⟩
    iexists (unsq h X)
    rw [← owns_squeeze (F := F) c fullShare M h (unsq h X), sq_unsq]
    iexact H
  · show (iprop(∃ X, _) : sProp 𝕄) ⊢ _
    iintro ⟨%X, H⟩
    iexists (sq h X)
    rw [owns_squeeze (F := F) c fullShare M h X]
    iexact H

theorem any_planes (M : Memref sig .tc .vmem S2x128x1024 .bf16) :
    any (F := F) c M ⊢ iprop(any (F := F) c (lnM M 0) ∗ any (F := F) c (lnM M 1)) := by
  refine (any_rects c lR (fun _ _ => rfl) lR_disj lR_cov M).trans (Entails.of_eq ?_)
  rw [bigSep_fin_two, any_squeeze, any_squeeze]; rfl

theorem any_of_planes [∀ e, Nonempty (Elt F e)] (M : Memref sig .tc .vmem S2x128x1024 .bf16) :
    iprop(any (F := F) c (lnM M 0) ∗ any (F := F) c (lnM M 1)) ⊢ any (F := F) c M := by
  refine BIBase.Entails.trans (Entails.of_eq ?_) (any_of_rects c lR (fun _ _ => rfl) lR_disj lR_cov M)
  rw [bigSep_fin_two, any_squeeze, any_squeeze]; rfl

/-- Half `u` of the second plane, taken of the landing buffer at once or of the plane. -/
theorem quarter (M : Memref sig .tc .vmem S2x128x1024 .bf16) (u : Fin 2) (Y : Vec F S64x1024 .bf16) :
    (owns (c : Thread nD τ) (qtM M u) q Y : sProp 𝕄) = owns (c : Thread nD τ) (hfM (lnM M 1) u) q Y := by
  have hemb (j : S64x1024.Idx) : (qtM M u).view.emb j = (hfM (lnM M 1) u).view.emb j := by
    show M.view.emb ((qR u).emb (Shape.reshapeEquiv sqQ.numel_eq j)) = M.view.emb ((lR 1).emb (Shape.reshapeEquiv sqL.numel_eq ((hR u).emb j)))
    refine congrArg _ ?_
    rw [Shape.reshapeEquiv_cons_one, Shape.reshapeEquiv_cons_one]
    funext a
    apply Fin.ext
    match a with
    | 0 => rfl
    | 1 => show row u + 1 * (j 0).val = 0 + 1 * (row u + 1 * (j 0).val); omega
    | 2 => show 0 + 1 * (j 1).val = 0 + 1 * (0 + 1 * (j 1).val); omega
  have hset : (qtM M u).view.set = (hfM (lnM M 1) u).view.set := by
    unfold View.set
    ext i
    simp only [Finset.mem_map, Finset.mem_univ, true_and]
    exact exists_congr fun j => by rw [hemb j]
  have hread (f : M.view.ty.Contents (Elt F)) : (qtM M u).view.read (Elt F) f = (hfM (lnM M 1) u).view.read (Elt F) f := by
    funext j
    rw [View.read_apply, View.read_apply, hemb j]
  unfold owns
  rw [hset]
  refine congrArg _ (funext fun f => ?_)
  rw [hread f]

theorem any_quarters (M : Memref sig .tc .vmem S2x128x1024 .bf16) :
    any (F := F) c (lnM M 1) ⊢ iprop(any (F := F) c (qtM M 0) ∗ any (F := F) c (qtM M 1)) := by
  refine (any_halves c (lnM M 1)).trans (Entails.of_eq ?_)
  unfold any
  simp only [quarter]

theorem of_quarters [∀ e, Nonempty (Elt F e)] (M : Memref sig .tc .vmem S2x128x1024 .bf16) (X : Vec F S128x1024 .bf16) :
    iprop(owns (c : Thread nD τ) (qtM M 0) q (hf 0 X) ∗ owns (c : Thread nD τ) (qtM M 1) q (hf 1 X))
      ⊢ (owns (c : Thread nD τ) (lnM M 1) q X : sProp 𝕄) := by
  rw [quarter, quarter]
  exact of_halves c q (lnM M 1) X

/-! ## The eight planes of partial products -/

theorem pR_disj (t t' : Fin 4 × Fin 2) (h : t ≠ t') : Disjoint (pR t.1 t.2).set (pR t'.1 t'.2).set := by
  by_cases h0 : t.1 = t'.1
  · have h1 : t.2 ≠ t'.2 := fun e => h (Prod.ext h0 e)
    refine Rect.unit_disjoint (1 : Fin 4) ?_
    show t.2.val + 1 ≤ t'.2.val ∨ t'.2.val + 1 ≤ t.2.val
    have := Fin.val_ne_of_ne h1
    omega
  · refine Rect.unit_disjoint (0 : Fin 4) ?_
    show t.1.val + 1 ≤ t'.1.val ∨ t'.1.val + 1 ≤ t.1.val
    have := Fin.val_ne_of_ne h0
    omega

theorem pR_cov : Finset.univ.biUnion (fun t : Fin 4 × Fin 2 => (pR t.1 t.2).set) = Finset.univ := by
  refine Finset.eq_univ_of_forall fun i => Finset.mem_biUnion.mpr ?_
  have h0 : (i 0).val < 4 := (i 0).isLt
  have h1 : (i 1).val < 2 := (i 1).isLt
  have h2 : (i 2).val < 128 := (i 2).isLt
  have h3 : (i 3).val < 1024 := (i 3).isLt
  refine ⟨(⟨(i 0).val, h0⟩, ⟨(i 1).val, h1⟩), Finset.mem_univ _, Rect.mem_set_unit.mpr fun a => ?_⟩
  match a with
  | 0 => exact ⟨Nat.le_refl _, by show (i 0).val < (i 0).val + 1; omega⟩
  | 1 => exact ⟨Nat.le_refl _, by show (i 1).val < (i 1).val + 1; omega⟩
  | 2 => exact ⟨Nat.zero_le _, by show (i 2).val < 0 + 128; omega⟩
  | 3 => exact ⟨Nat.zero_le _, by show (i 3).val < 0 + 1024; omega⟩

theorem list_planes (Φ : Fin 4 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) := by
  rw [bigSep_univ_eq_bigSepL [(0, 0), (0, 1), (1, 0), (1, 1), (2, 0), (2, 1), (3, 0), (3, 1)] (by decide) (by decide)]
  simp only [bigSepL]
  rfl

theorem any_pb : any (F := F) c pbM ⊢ iprop(any (F := F) c (plM 0 0) ∗ any (F := F) c (plM 0 1) ∗ any (F := F) c (plM 1 0) ∗ any (F := F) c (plM 1 1)
      ∗ any (F := F) c (plM 2 0) ∗ any (F := F) c (plM 2 1) ∗ any (F := F) c (plM 3 0) ∗ any (F := F) c (plM 3 1)) := by
  refine (any_rects c (fun t : Fin 4 × Fin 2 => pR t.1 t.2) (fun _ _ => rfl) pR_disj pR_cov pbM).trans (Entails.of_eq ?_)
  rw [list_planes]
  simp only [any_squeeze]

theorem any_of_pb [∀ e, Nonempty (Elt F e)] : iprop(any (F := F) c (plM 0 0) ∗ any (F := F) c (plM 0 1) ∗ any (F := F) c (plM 1 0) ∗ any (F := F) c (plM 1 1)
      ∗ any (F := F) c (plM 2 0) ∗ any (F := F) c (plM 2 1) ∗ any (F := F) c (plM 3 0) ∗ any (F := F) c (plM 3 1)) ⊢ any (F := F) c pbM := by
  refine BIBase.Entails.trans (Entails.of_eq ?_) (any_of_rects c (fun t : Fin 4 × Fin 2 => pR t.1 t.2) (fun _ _ => rfl) pR_disj pR_cov pbM)
  rw [list_planes]
  simp only [any_squeeze]

/-! ## The eight slabs of the result -/

theorem oR_inb (b : Dev nD) (h : Fin 2) : ∀ a, (![256 * b.val + 128 * h.val, 0] : Fin 2 → Nat) a + S128x1024.size a ≤ S1024x1024.size a := by
  revert b h; decide
/-- The rows of half `h` of block `b` of the result. -/
abbrev oR (b : Dev nD) (h : Fin 2) : Rect S1024x1024 := Rect.unit (s := S1024x1024) ![256 * b.val + 128 * h.val, 0] S128x1024.size (oR_inb b h)
abbrev olM (b : Dev nD) (h : Fin 2) : Memref sig .tc .vmem S128x1024 .f32 := oM.slice (oR b h) (fun _ => rfl)

theorem off5_0 : k0_off5 c 0#32 = ![256 * c.val + 128 * (0 : Fin 2).val, 0] := by revert c; decide
theorem off5_1 : k0_off5 c 128#32 = ![256 * c.val + 128 * (1 : Fin 2).val, 0] := by revert c; decide
theorem off6_0 : k0_off6 c 0#32 = ![256 * (p1 c).val + 128 * (0 : Fin 2).val, 0] := by revert c; decide
theorem off6_1 : k0_off6 c 128#32 = ![256 * (p1 c).val + 128 * (1 : Fin 2).val, 0] := by revert c; decide
theorem off7_0 : k0_off7 c 0#32 = ![256 * (p2 c).val + 128 * (0 : Fin 2).val, 0] := by revert c; decide
theorem off7_1 : k0_off7 c 128#32 = ![256 * (p2 c).val + 128 * (1 : Fin 2).val, 0] := by revert c; decide
theorem off8_0 : k0_off8 c 0#32 = ![256 * (p1 (p2 c)).val + 128 * (0 : Fin 2).val, 0] := by revert c; decide
theorem off8_1 : k0_off8 c 128#32 = ![256 * (p1 (p2 c)).val + 128 * (1 : Fin 2).val, 0] := by revert c; decide

theorem oR_disj (t t' : Dev nD × Fin 2) (h : t ≠ t') : Disjoint (oR t.1 t.2).set (oR t'.1 t'.2).set := by
  refine Rect.unit_disjoint (0 : Fin 2) ?_
  show 256 * t.1.val + 128 * t.2.val + 128 ≤ 256 * t'.1.val + 128 * t'.2.val ∨ 256 * t'.1.val + 128 * t'.2.val + 128 ≤ 256 * t.1.val + 128 * t.2.val
  have h2 := t.2.isLt
  have h2' := t'.2.isLt
  by_cases h0 : t.1 = t'.1
  · have h1 : t.2 ≠ t'.2 := fun e => h (Prod.ext h0 e)
    have := Fin.val_ne_of_ne h1
    have := congrArg Fin.val h0
    omega
  · have := Fin.val_ne_of_ne h0
    omega

theorem oR_cov : Finset.univ.biUnion (fun t : Dev nD × Fin 2 => (oR t.1 t.2).set) = Finset.univ := by
  refine Finset.eq_univ_of_forall fun i => Finset.mem_biUnion.mpr ?_
  have h0 : (i 0).val < 1024 := (i 0).isLt
  have h1 : (i 1).val < 1024 := (i 1).isLt
  refine ⟨(⟨(i 0).val / 256, by show _ < 4; omega⟩, ⟨(i 0).val / 128 % 2, Nat.mod_lt _ (by decide)⟩), Finset.mem_univ _, Rect.mem_set_unit.mpr fun a => ?_⟩
  match a with
  | 0 =>
    refine ⟨?_, ?_⟩
    · show 256 * ((i 0).val / 256) + 128 * ((i 0).val / 128 % 2) ≤ (i 0).val; omega
    · show (i 0).val < 256 * ((i 0).val / 256) + 128 * ((i 0).val / 128 % 2) + 128; omega
  | 1 => exact ⟨Nat.zero_le _, by show (i 1).val < 0 + 1024; omega⟩

theorem around (Φ : Dev nD × Fin 2 → sProp 𝕄) :
    bigSep Finset.univ Φ = iprop(Φ (c, 0) ∗ Φ (c, 1) ∗ Φ (p1 c, 1) ∗ Φ (p2 c, 0) ∗ Φ (p1 c, 0) ∗ Φ (p2 c, 1) ∗ Φ (p1 (p2 c), 0) ∗ Φ (p1 (p2 c), 1)) := by
  rw [bigSep_univ_eq_bigSepL [(c, 0), (c, 1), (p1 c, 1), (p2 c, 0), (p1 c, 0), (p2 c, 1), (p1 (p2 c), 0), (p1 (p2 c), 1)]
    (by revert c; decide) (by revert c; decide)]
  simp only [bigSepL]
  rfl

theorem any_out : any (F := F) c oM ⊢ iprop(any (F := F) c (olM c 0) ∗ any (F := F) c (olM c 1) ∗ any (F := F) c (olM (p1 c) 1) ∗ any (F := F) c (olM (p2 c) 0)
      ∗ any (F := F) c (olM (p1 c) 0) ∗ any (F := F) c (olM (p2 c) 1) ∗ any (F := F) c (olM (p1 (p2 c)) 0) ∗ any (F := F) c (olM (p1 (p2 c)) 1)) := by
  refine (any_rects c (fun t : Dev nD × Fin 2 => oR t.1 t.2) (fun _ _ => rfl) oR_disj oR_cov oM).trans (Entails.of_eq ?_)
  rw [around c]

variable (I : Inputs F)

theorem outV_slab (b : Dev nD) (h : Fin 2) (j : S128x1024.Idx) : outV I ((oR b h).emb j) = oh I b h j := by
  have hj : (j 0).val < 128 := (j 0).isLt
  have hh := h.isLt
  have hv : (((oR b h).emb j) 0).val = 256 * b.val + 128 * h.val + 1 * (j 0).val := rfl
  have h1 : (((oR b h).emb j) 0).val / 256 = b.val := by rw [hv]; omega
  have h2 : (((oR b h).emb j) 0).val / 128 % 2 = h.val := by rw [hv]; omega
  have h3 : (((oR b h).emb j) 0).val % 128 = (j 0).val := by rw [hv]; omega
  unfold outV
  have e1 : (⟨(((oR b h).emb j) 0).val / 256, by rw [h1]; exact b.isLt⟩ : Dev nD) = b := Fin.ext h1
  have e2 : (⟨(((oR b h).emb j) 0).val / 128 % 2, Nat.mod_lt _ (by decide)⟩ : Fin 2) = h := Fin.ext h2
  rw [e1, e2]
  refine congrArg _ (funext fun a => ?_)
  match a with
  | 0 => exact Fin.ext h3
  | 1 => exact Fin.ext (show 0 + 1 * (j 1).val = (j 1).val by omega)

theorem out_of [∀ e, Nonempty (Elt F e)] :
    iprop(owns (c : Thread nD τ) (olM c 0) fullShare (oh I c 0) ∗ owns (c : Thread nD τ) (olM c 1) fullShare (oh I c 1)
      ∗ owns (c : Thread nD τ) (olM (p1 c) 1) fullShare (oh I (p1 c) 1) ∗ owns (c : Thread nD τ) (olM (p2 c) 0) fullShare (oh I (p2 c) 0)
      ∗ owns (c : Thread nD τ) (olM (p1 c) 0) fullShare (oh I (p1 c) 0) ∗ owns (c : Thread nD τ) (olM (p2 c) 1) fullShare (oh I (p2 c) 1)
      ∗ owns (c : Thread nD τ) (olM (p1 (p2 c)) 0) fullShare (oh I (p1 (p2 c)) 0) ∗ owns (c : Thread nD τ) (olM (p1 (p2 c)) 1) fullShare (oh I (p1 (p2 c)) 1))
      ⊢ (owns (c : Thread nD τ) oM fullShare (outV I) : sProp 𝕄) := by
  refine BIBase.Entails.trans (Entails.of_eq ?_)
    (owns_of_rects (c : Thread nD τ) oM fullShare (fun t : Dev nD × Fin 2 => oR t.1 t.2) (fun _ _ => rfl) oR_disj oR_cov (outV I))
  have hf : (fun t : Dev nD × Fin 2 => (owns (c : Thread nD τ) (oM.slice (oR t.1 t.2) (fun _ => rfl)) fullShare (fun j => outV I ((oR t.1 t.2).emb j)) : sProp 𝕄))
      = fun t => owns (c : Thread nD τ) (olM t.1 t.2) fullShare (oh I t.1 t.2) := by
    funext t
    refine congrArg _ (funext fun j => outV_slab I t.1 t.2 j)
  rw [show (bigSep Finset.univ (fun t : Dev nD × Fin 2 => (owns (c : Thread nD τ) (oM.slice (oR t.1 t.2) (fun _ => rfl)) fullShare (fun j => outV I ((oR t.1 t.2).emb j)) : sProp 𝕄)))
    = bigSep Finset.univ (fun t : Dev nD × Fin 2 => (owns (c : Thread nD τ) (olM t.1 t.2) fullShare (oh I t.1 t.2) : sProp 𝕄)) from congrArg _ hf, around c]

end Cert.KernelIdeal.Run
-- ==== Proof.Body1.lean ====
/-
  The pieces of the body before the last block of the batch is written out: the words, the partial products of the first three
  blocks and the copies that carry them, and the first two arrivals.
-/
module

public import proofs.«01_k».proof.Proof.Pieces

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ) (c : Dev nD)

theorem part1 {Q : _ → sProp (MT nD τ sig Unit (Elt F) ℕ UU ℕ)} :
    Ctx I K ⊢ iprop(word (nx 1 c) c -∗ oweX c (O₀ c)
      -∗ (oweX c (due c order + tallyAt (barCell (nx 3 c)) () 1 + tallyAt (barCell (nx 2 c)) () 1)
          -∗ ∀ v2 v3 v4 v15 v30 v32, Q ⟨c, v2, v3, v4, v15, SemArray.scalar (sig.barrier 0 rfl), v30, v32⟩)
      -∗ WP c (onBufs (k0_part1 (F := F))) Q) := by
  rw [k0_part1_eq_skeleton]
  unfold k0_part1_skel onBufs
  simp only [semSignalWord, Prog.lift, Prog.bind_op, Prog.bind_ret, Prog.pure_eq_ret, wp_deviceId]
  iintro #HC Hw HO Hk
  iapply (wp_say I K c (nx 1 c) _ (dev1_nx c) (nx_ne 1 c (by decide)) _) $$ HC Hw [HO]
  · iexact HO
  iintro HO
  iapply wp_done
  iapply Hk $$ HO

theorem part2 (v2 v30 v32 : BitVec 32) {Q : _ → sProp (MT nD τ sig Unit (Elt F) ℕ UU ℕ)} :
    Ctx I K ⊢ iprop(word (nx 2 c) c -∗ word (nx 3 c) c -∗ cred (tallyAt (barCell c) () 3) -∗ atPos ER (barCell c) 0 ∅ 0
      -∗ owns (c : Thread nD τ) wqM fullShare (I.wq c) -∗ owns (c : Thread nD τ) woM fullShare (I.wo c)
      -∗ owns (c : Thread nD τ) wkM fullShare (I.wk c) -∗ owns (c : Thread nD τ) wvM fullShare (I.wv c)
      -∗ oweX c (due c order + tallyAt (barCell (nx 3 c)) () 1 + tallyAt (barCell (nx 2 c)) () 1)
      -∗ ((bigSep Finset.univ fun k => give k (tgt k c)) -∗ semVal (barCell c) 0 -∗ owns (c : Thread nD τ) wqM fullShare (I.wq c)
          -∗ owns (c : Thread nD τ) woM fullShare (I.wo c) -∗ owns (c : Thread nD τ) wkM fullShare (I.wk c) -∗ owns (c : Thread nD τ) wvM fullShare (I.wv c)
          -∗ oweX c (due c order) -∗ Q ⟨k0_pay1 (I.wq c), k0_pay2 (I.wk c), k0_pay3 (I.wv c), k0_pay4 (I.wo c)⟩)
      -∗ WP c (onBufs (k0_part2 (F := F)) c v2 (SemArray.scalar (sig.barrier 0 rfl)) v30 v32) Q) := by
  rw [k0_part2_eq_skeleton]
  unfold k0_part2_skel onBufs
  simp only [semSignalWord, semWaitWord, Prog.lift, Prog.bind_op, Prog.bind_ret, Prog.pure_eq_ret]
  iintro #HC Hw2 Hw3 Hc Hat Hq Ho Hwk Hwv HO Hk
  iapply (wp_say I K c (nx 2 c) _ (dev2_nx c) (nx_ne 2 c (by decide)) _) $$ HC Hw2 HO
  iintro HO
  iapply (wp_say I K c (nx 3 c) _ (dev3_nx c) (nx_ne 3 c (by decide)) _) $$ HC Hw3 HO
  iintro HO
  iapply (wp_words I K c) $$ [Hc Hat HO]
  · isplitr; · iexact HC
    isplitl [Hc]; · iexact Hc
    isplitl [Hat]; · iexact Hat
    iexact HO
  iintro ⟨Hg, Hz, HO⟩
  iapply (wp_load_all c fullShare (funext fun a => by revert a; decide) _ (I.wq c)) $$ [Hq]
  · iexact Hq
  iintro Hq
  iapply (wp_load_all c fullShare (funext fun a => by revert a; decide) _ (I.wk c)) $$ [Hwk]
  · iexact Hwk
  iintro Hwk
  iapply (wp_load_all c fullShare (funext fun a => by revert a; decide) _ (I.wv c)) $$ [Hwv]
  · iexact Hwv
  iintro Hwv
  iapply (wp_load_all c fullShare (funext fun a => by revert a; decide) _ (I.wo c)) $$ [Ho]
  · iexact Ho
  iintro Ho
  iapply wp_done
  iapply Hk $$ Hg Hz Hq Ho Hwk Hwv HO

theorem part3 (v15 : BitVec 32) (v57 : FVec F S1024x1024 .f32) (v59 v61 : FVec F S1024x256 .f32) {Q : _ → sProp (MT nD τ sig Unit (Elt F) ℕ UU ℕ)} :
    (owns (c : Thread nD τ) xM fullShare (I.x c) : sProp 𝕄)
      ⊢ iprop((owns (c : Thread nD τ) xM fullShare (I.x c) -∗ Q ⟨k0_pay6 v57 (xAt I 0 c), k0_pay7 v59 (xAt I 0 c), k0_pay8 v61 (xAt I 0 c), k0_pay9 v57 v59 v61 (xAt I 0 c),
          k0_pay10 v57 v59 v61 (xAt I 0 c), k0_pay11 v57 (xAt I 0 c), k0_pay12 v61 (xAt I 0 c), k0_pay13 v59 (xAt I 0 c), constant S256x256 .f32 0x00000000#32⟩)
      -∗ WP c (onBufs (k0_part3 (F := F)) c v15 v57 v59 v61) Q) := by
  rw [k0_part3_eq_skeleton]
  unfold k0_part3_skel onBufs
  simp only [Prog.lift, Prog.bind_op, Prog.bind_ret, Prog.pure_eq_ret]
  iintro Hx Hk
  iapply (wp_load_as c fullShare _ (I.x c) (xAt I 0 c) rfl) $$ [Hx]
  · iexact Hx
  iintro Hx
  iapply wp_done
  iapply Hk $$ Hx

theorem part6 (v3 v4 : BitVec 32) (v63 : FVec F S1024x1024 .f32) (v86 v103 v120 v137 v154 v171 v188 v191 : FVec F S256x128 .f32) (v200 : FVec F S256x256 .f32)
    (h0 : k0_pay25 v63 v86 v103 v120 v137 v154 v171 v188 v191 v200 = pv I 0 0 c) (h1 : k0_pay26 v63 v86 v103 v120 v137 v154 v171 v188 v191 v200 = pv I 0 1 c)
    {Q : _ → sProp (MT nD τ sig Unit (Elt F) ℕ UU ℕ)} :
    Ctx I K ⊢ iprop(any c (plM 0 0) -∗ any c (plM 0 1) -∗ sGo 0 c -∗ oweX c (due c order)
      -∗ (sFly 0 c -∗ owns (c : Thread nD τ) (plM 0 1) fullShare (ps I 0 1 c) -∗ oweX c (due c [1,2,3,4,5,8,9,11,6,7,10,14,15,12,13])
            -∗ Q ⟨Scalar.muli v4 1#32, 0#32⟩)
      -∗ WP c (onBufs (k0_part6 (F := F)) c v3 v4 v63 v86 v103 v120 v137 v154 v171 v188 v191 v200) Q) := by
  rw [k0_part6_eq_skeleton]
  unfold k0_part6_skel onBufs
  simp only [Prog.lift, Prog.bind_op, Prog.bind_ret, Prog.pure_eq_ret]
  iintro #HC H0 H1 Hg HO Hk
  iapply (wp_peek_sq c pbM (pR 0 0) (fun _ => rfl) sqP) $$ H0
  iintro %v H0
  iapply (wp_store_sq c pbM (pR 0 0) (fun _ => rfl) sqP _) $$ [H0]
  · unfold any; iexact H0
  iintro H0
  iapply (wp_peek_sq c pbM (pR 0 1) (fun _ => rfl) sqP) $$ H1
  iintro %v' H1
  iapply (wp_store_sq c pbM (pR 0 1) (fun _ => rfl) sqP _) $$ [H1]
  · unfold any; iexact H1
  iintro H1
  rw [h0, h1]
  iapply (wp_go I K 0 c _ (dev4 c) _) $$ HC Hg [H0] [HO]
  · iexact H0
  · iexact HO
  iintro Hf HO
  iapply wp_done
  iapply Hk $$ Hf [H1] HO
  iexact H1

theorem part7 (v3 v228 v0 : BitVec 32) (v57 : FVec F S1024x1024 .f32) (v59 v61 : FVec F S1024x256 .f32) {Q : _ → sProp (MT nD τ sig Unit (Elt F) ℕ UU ℕ)} :
    Ctx I K ⊢ iprop(owns (c : Thread nD τ) (plM 0 1) fullShare (ps I 0 1 c) -∗ sGo 1 c -∗ owns (c : Thread nD τ) xM fullShare (I.x c)
      -∗ oweX c (due c [1,2,3,4,5,8,9,11,6,7,10,14,15,12,13])
      -∗ (sFly 1 c -∗ owns (c : Thread nD τ) xM fullShare (I.x c) -∗ oweX c (due c [2,3,4,5,8,9,11,6,7,10,14,15,12,13])
            -∗ Q ⟨k0_pay28 v57 (xAt I 1 c), k0_pay29 v59 (xAt I 1 c), k0_pay30 v61 (xAt I 1 c), k0_pay31 v57 v59 v61 (xAt I 1 c), k0_pay32 v61 (xAt I 1 c),
              k0_pay33 v57 v59 (xAt I 1 c), k0_pay34 v57 v59 (xAt I 1 c)⟩)
      -∗ WP c (onBufs (k0_part7 (F := F)) c v3 v57 v59 v61 v228 v0) Q) := by
  rw [k0_part7_eq_skeleton]
  unfold k0_part7_skel onBufs
  simp only [Prog.lift, Prog.bind_op, Prog.bind_ret, Prog.pure_eq_ret]
  iintro #HC H1 Hg Hx HO Hk
  iapply (wp_go I K 1 c _ (dev5 c) _) $$ HC Hg [H1] HO
  · iexact H1
  iintro Hf HO
  iapply (wp_load_as c fullShare _ (I.x c) (xAt I 1 c) rfl) $$ [Hx]
  · iexact Hx
  iintro Hx
  iapply wp_done
  iapply Hk $$ Hf Hx HO

theorem part10 (v3 : BitVec 32) (v63 : FVec F S1024x1024 .f32) (v242 v243 : FVec F S256x256 .f32) (v260 v277 v294 v311 v328 v345 v362 v363 : FVec F S256x128 .f32)
    (h0 : k0_pay45 v63 v242 v243 v260 v277 v294 v311 v328 v345 v362 v363 = pv I 1 0 c) (h1 : k0_pay46 v63 v242 v243 v260 v277 v294 v311 v328 v345 v362 v363 = pv I 1 1 c)
    {Q : _ → sProp (MT nD τ sig Unit (Elt F) ℕ UU ℕ)} :
    any c (plM 1 0) ⊢ iprop(any c (plM 1 1)
      -∗ (owns (c : Thread nD τ) (plM 1 0) fullShare (ps I 1 0 c) -∗ owns (c : Thread nD τ) (plM 1 1) fullShare (ps I 1 1 c) -∗ Q ⟨⟩)
      -∗ WP c (onBufs (k0_part10 (F := F)) v3 v63 v242 v243 v260 v277 v294 v311 v328 v345 v362 v363) Q) := by
  rw [k0_part10_eq_skeleton]
  unfold k0_part10_skel onBufs
  simp only [Prog.lift, Prog.bind_op, Prog.bind_ret, Prog.pure_eq_ret]
  iintro H0 H1 Hk
  iapply (wp_peek_sq c pbM (pR 1 0) (fun _ => rfl) sqP) $$ H0
  iintro %v H0
  iapply (wp_store_sq c pbM (pR 1 0) (fun _ => rfl) sqP _) $$ [H0]
  · unfold any; iexact H0
  iintro H0
  iapply (wp_peek_sq c pbM (pR 1 1) (fun _ => rfl) sqP) $$ H1
  iintro %v' H1
  iapply (wp_store_sq c pbM (pR 1 1) (fun _ => rfl) sqP _) $$ [H1]
  · unfold any; iexact H1
  iintro H1
  rw [h0, h1]
  iapply wp_done
  iapply Hk $$ [H0] [H1]
  · iexact H0
  · iexact H1

theorem part11 (v4 : BitVec 32) (v57 : FVec F S1024x1024 .f32) (v59 v61 : FVec F S1024x256 .f32) {Q : _ → sProp (MT nD τ sig Unit (Elt F) ℕ UU ℕ)} :
    Ctx I K ⊢ iprop(owns (c : Thread nD τ) (plM 1 0) fullShare (ps I 1 0 c) -∗ sGo 2 c -∗ owns (c : Thread nD τ) xM fullShare (I.x c)
      -∗ oweX c (due c [2,3,4,5,8,9,11,6,7,10,14,15,12,13])
      -∗ (sFly 2 c -∗ owns (c : Thread nD τ) xM fullShare (I.x c) -∗ oweX c (due c [3,4,5,8,9,11,6,7,10,14,15,12,13])
            -∗ Q ⟨k0_pay48 v57 (xAt I 2 c), k0_pay49 v59 (xAt I 2 c), k0_pay50 v61 (xAt I 2 c), k0_pay51 v57 v59 v61 (xAt I 2 c), k0_pay53 v57 v59 v61 (xAt I 2 c),
              k0_pay54 v57 v59 (xAt I 2 c)⟩)
      -∗ WP c (onBufs (k0_part11 (F := F)) c v4 v57 v59 v61) Q) := by
  rw [k0_part11_eq_skeleton]
  unfold k0_part11_skel onBufs
  simp only [Prog.lift, Prog.bind_op, Prog.bind_ret, Prog.pure_eq_ret]
  iintro #HC H1 Hg Hx HO Hk
  iapply (wp_go I K 2 c _ (dev6 c) _) $$ HC Hg [H1] HO
  · iexact H1
  iintro Hf HO
  iapply (wp_load_as c fullShare _ (I.x c) (xAt I 2 c) rfl) $$ [Hx]
  · iexact Hx
  iintro Hx
  iapply wp_done
  iapply Hk $$ Hf Hx HO

theorem part14 (v4 : BitVec 32) (v63 : FVec F S1024x1024 .f32) (v424 v441 v458 v475 v492 v509 v526 v529 : FVec F S256x128 .f32) (v533 : FVec F S256x256 .f32)
    (h0 : k0_pay66 v63 v424 v441 v458 v475 v492 v509 v526 v529 v533 = pv I 2 0 c) (h1 : k0_pay67 v63 v424 v441 v458 v475 v492 v509 v526 v529 v533 = pv I 2 1 c)
    {Q : _ → sProp (MT nD τ sig Unit (Elt F) ℕ UU ℕ)} :
    Ctx I K ⊢ iprop(any c (plM 2 0) -∗ any c (plM 2 1) -∗ sGo 3 c -∗ oweX c (due c [3,4,5,8,9,11,6,7,10,14,15,12,13])
      -∗ (sFly 3 c -∗ owns (c : Thread nD τ) (plM 2 0) fullShare (ps I 2 0 c) -∗ oweX c (due c [4,5,8,9,11,6,7,10,14,15,12,13]) -∗ Q ⟨⟩)
      -∗ WP c (onBufs (k0_part14 (F := F)) c v4 v63 v424 v441 v458 v475 v492 v509 v526 v529 v533) Q) := by
  rw [k0_part14_eq_skeleton]
  unfold k0_part14_skel onBufs
  simp only [Prog.lift, Prog.bind_op, Prog.bind_ret, Prog.pure_eq_ret]
  iintro #HC H0 H1 Hg HO Hk
  iapply (wp_peek_sq c pbM (pR 2 0) (fun _ => rfl) sqP) $$ H0
  iintro %v H0
  iapply (wp_store_sq c pbM (pR 2 0) (fun _ => rfl) sqP _) $$ [H0]
  · unfold any; iexact H0
  iintro H0
  iapply (wp_peek_sq c pbM (pR 2 1) (fun _ => rfl) sqP) $$ H1
  iintro %v' H1
  iapply (wp_store_sq c pbM (pR 2 1) (fun _ => rfl) sqP _) $$ [H1]
  · unfold any; iexact H1
  iintro H1
  rw [h0, h1]
  iapply (wp_go I K 3 c _ (dev7 c) _) $$ HC Hg [H1] HO
  · iexact H1
  iintro Hf HO
  iapply wp_done
  iapply Hk $$ Hf [H0] HO
  iexact H0

theorem part15 (v3 v4 : BitVec 32) {Q : _ → sProp (MT nD τ sig Unit (Elt F) ℕ UU ℕ)} :
    Ctx I K ⊢ iprop(owns (c : Thread nD τ) (plM 2 0) fullShare (ps I 2 0 c) -∗ any c snpM -∗ rExp 0 c -∗ sGo 4 c
      -∗ oweX c (due c [4,5,8,9,11,6,7,10,14,15,12,13])
      -∗ (any (F := F) c (plM 2 0) -∗ any (F := F) c (dst 0) -∗ semVal (recvCell 0 c) 0 -∗ sFly 4 c -∗ oweX c (due c [5,8,9,11,6,7,10,14,15,12,13]) -∗ Q ⟨⟩)
      -∗ WP c (onBufs (k0_part15 (F := F)) c v3 v4) Q) := by
  rw [k0_part15_eq_skeleton]
  unfold k0_part15_skel onBufs
  simp only [Prog.lift, Prog.bind_op, Prog.bind_ret, Prog.pure_eq_ret]
  iintro #HC H0 Hs Hr Hg HO Hk
  iapply (wp_come I K 0 c _ (by decide)) $$ HC Hr HO
  iintro Hd Hz HO
  iapply (wp_load_sq c fullShare pbM (pR 2 0) (fun _ => rfl) sqP (pv I 2 0 c)) $$ [H0]
  · iexact H0
  iintro H0
  iapply (wp_load_unsq c fullShare s1pM (lR 0) (fun _ => rfl) sqL (ps I 0 0 (p1 c))) $$ [Hd]
  · iexact Hd
  iintro Hd
  iapply (wp_peek_all c (funext fun a => by revert a; decide) _) $$ [Hs]
  · iexact Hs
  iintro %v Hs
  iapply (wp_store_all c (funext fun a => by revert a; decide) _ _) $$ [Hs]
  · unfold any; iexact Hs
  iintro Hs
  iapply (wp_go I K 4 c _ (dev8 c) _) $$ HC Hg [Hs] HO
  · iexact Hs
  iintro Hf HO
  iapply wp_done
  ihave H0 := (any_of (F := F) c _ _) $$ H0
  ihave Hd := (any_of (F := F) c _ _) $$ Hd
  iapply Hk $$ [H0] [Hd] Hz Hf HO
  · iexact H0
  · iexact Hd

theorem part16 (v2 v3 : BitVec 32) (v57 : FVec F S1024x1024 .f32) (v59 v61 : FVec F S1024x256 .f32) {Q : _ → sProp (MT nD τ sig Unit (Elt F) ℕ UU ℕ)} :
    Ctx I K ⊢ iprop(owns (c : Thread nD τ) (plM 1 1) fullShare (ps I 1 1 c) -∗ any c snqM -∗ rExp 1 c -∗ sGo 5 c -∗ owns (c : Thread nD τ) xM fullShare (I.x c)
      -∗ oweX c (due c [5,8,9,11,6,7,10,14,15,12,13])
      -∗ (any (F := F) c (plM 1 1) -∗ any (F := F) c (dst 1) -∗ semVal (recvCell 1 c) 0 -∗ sFly 5 c -∗ owns (c : Thread nD τ) xM fullShare (I.x c)
          -∗ oweX c (due c [8,9,11,6,7,10,14,15,12,13])
          -∗ Q ⟨k0_pay71 v57 (xAt I 3 c), k0_pay72 v59 (xAt I 3 c), k0_pay73 v61 (xAt I 3 c), k0_pay74 v61 (xAt I 3 c), k0_pay75 v57 v59 (xAt I 3 c), Scalar.ofBits .f32 0x3DB504F3#32⟩)
      -∗ WP c (onBufs (k0_part16 (F := F)) c v2 v3 v57 v59 v61) Q) := by
  rw [k0_part16_eq_skeleton]
  unfold k0_part16_skel onBufs
  simp only [Prog.lift, Prog.bind_op, Prog.bind_ret, Prog.pure_eq_ret]
  iintro #HC H0 Hs Hr Hg Hx HO Hk
  iapply (wp_come I K 1 c _ (by decide)) $$ HC Hr HO
  iintro Hd Hz HO
  iapply (wp_load_sq c fullShare pbM (pR 1 1) (fun _ => rfl) sqP (pv I 1 1 c)) $$ [H0]
  · iexact H0
  iintro H0
  iapply (wp_load_unsq c fullShare s1qM (lR 0) (fun _ => rfl) sqL (ps I 0 1 (p2 c))) $$ [Hd]
  · iexact Hd
  iintro Hd
  iapply (wp_peek_all c (funext fun a => by revert a; decide) _) $$ [Hs]
  · iexact Hs
  iintro %v Hs
  iapply (wp_store_all c (funext fun a => by revert a; decide) _ _) $$ [Hs]
  · unfold any; iexact Hs
  iintro Hs
  iapply (wp_go I K 5 c _ (dev9 c) _) $$ HC Hg [Hs] HO
  · iexact Hs
  iintro Hf HO
  iapply (wp_load_as c fullShare _ (I.x c) (xAt I 3 c) rfl) $$ [Hx]
  · iexact Hx
  iintro Hx
  iapply wp_done
  ihave H0 := (any_of (F := F) c _ _) $$ H0
  ihave Hd := (any_of (F := F) c _ _) $$ Hd
  iapply Hk $$ [H0] [Hd] Hz Hf Hx HO
  · iexact H0
  · iexact Hd

end Cert.KernelIdeal.Run
-- ==== Proof.Body2.lean ====
/-
  The pieces of the body from the last block of the batch to the last arrival: the sums, the copies of the finished halves, and the
  eight slabs of the result.
-/
module

public import proofs.«01_k».proof.Proof.Pieces

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ) (c : Dev nD)

theorem part19 (v63 : FVec F S1024x1024 .f32) (v619 : FVec F S256x1024 .f32) (v620 v621 : FVec F S256x256 .f32) (v638 v655 v672 v689 v706 v709 : FVec F S256x128 .f32)
    (v718 : FVec F S256x256 .f32) (v719 : FVec F S256 .f32) {Q : _ → sProp (MT nD τ sig Unit (Elt F) ℕ UU ℕ)} :
    any (F := F) c (plM 3 0) ⊢ iprop((any (F := F) c (plM 3 0) -∗ Q ⟨k0_pay85 v63 v619 v620 v621 v638 v655 v672 v689 v706 v709 v718 v719, k0_pay86 v63 v619 v620 v621 v638 v655 v672 v689 v706 v709 v718 v719⟩)
      -∗ WP c (onBufs (k0_part19 (F := F)) v63 v619 v620 v621 v638 v655 v672 v689 v706 v709 v718 v719) Q) := by
  rw [k0_part19_eq_skeleton]
  unfold k0_part19_skel onBufs
  simp only [Prog.lift, Prog.bind_op, Prog.bind_ret, Prog.pure_eq_ret]
  iintro H0 Hk
  iapply (wp_peek_sq c pbM (pR 3 0) (fun _ => rfl) sqP) $$ H0
  iintro %v H0
  iapply wp_done
  iapply Hk $$ H0

theorem part20 (v3 v4 : BitVec 32) (v759 : FVec F S256x1024 .f32) (v761 : FVec F S128x1024 .bf16) (h0 : k0_pay87 v761 = pv I 3 0 c) (h1 : k0_pay88 v759 = pv I 3 1 c) {Q : _ → sProp (MT nD τ sig Unit (Elt F) ℕ UU ℕ)} :
    Ctx I K ⊢ iprop(any (F := F) c (plM 3 0) -∗ any (F := F) c (plM 3 1) -∗ rExp 3 c -∗ rExp 5 c -∗ oweX c (due c [8,9,11,6,7,10,14,15,12,13])
      -∗ (owns (c : Thread nD τ) (plM 3 0) fullShare (ps I 3 0 c) -∗ any (F := F) c (plM 3 1) -∗ any (F := F) c (dst 3) -∗ any (F := F) c (dst 5) -∗ semVal (recvCell 3 c) 0 -∗ semVal (recvCell 5 c) 0 -∗ oweX c (due c [8,9,11,6,7,10,14,15,12,13]) -∗ Q (k0_pay89 (pv I 3 1 c) (unsq sqL (ps I 2 1 (p2 c))) (snq I (p1 c))))
      -∗ WP c (onBufs (k0_part20 (F := F)) v3 v4 v759 v761) Q) := by
  rw [k0_part20_eq_skeleton]
  unfold k0_part20_skel onBufs
  simp only [Prog.lift, Prog.bind_op, Prog.bind_ret, Prog.pure_eq_ret]
  iintro #HC H0 H1 Hr3 Hr5 HO Hk
  iapply (wp_store_sq c pbM (pR 3 0) (fun _ => rfl) sqP _) $$ [H0]
  · unfold any; iexact H0
  iintro H0
  iapply (wp_peek_sq c pbM (pR 3 1) (fun _ => rfl) sqP) $$ H1
  iintro %v H1
  iapply (wp_store_sq c pbM (pR 3 1) (fun _ => rfl) sqP _) $$ [H1]
  · unfold any; iexact H1
  iintro H1
  rw [h0, h1]
  iapply (wp_come I K 3 c _ (by decide)) $$ HC Hr3 HO
  iintro Hd3 Hz3 HO
  iapply (wp_come I K 5 c _ (by decide)) $$ HC Hr5 HO
  iintro Hd5 Hz5 HO
  iapply (wp_load_sq c fullShare pbM (pR 3 1) (fun _ => rfl) sqP (pv I 3 1 c)) $$ [H1]
  · iexact H1
  iintro H1
  iapply (wp_load_unsq c fullShare s1qM (lR 1) (fun _ => rfl) sqL (ps I 2 1 (p2 c))) $$ [Hd3]
  · iexact Hd3
  iintro Hd3
  iapply (wp_load_all c fullShare (funext fun a => by revert a; decide) _ (snq I (p1 c))) $$ [Hd5]
  · iexact Hd5
  iintro Hd5
  ihave H1 := (any_of (F := F) c (plM 3 1) (ps I 3 1 c)) $$ [H1]
  · iexact H1
  ihave Hd3 := (any_of (F := F) c (dst 3) (val I 3 (tgt 3 c))) $$ [Hd3]
  · iexact Hd3
  ihave Hd5 := (any_of (F := F) c (dst 5) (val I 5 (tgt 5 c))) $$ [Hd5]
  · iexact Hd5
  iapply wp_done
  iapply Hk $$ [H0] H1 Hd3 Hd5 Hz3 Hz5 HO
  · iexact H0

theorem part21 (v3 v4 : BitVec 32) (v791 : FVec F S128x1024 .f32) (h : k0_pay90 v791 = redq I c) {Q : _ → sProp (MT nD τ sig Unit (Elt F) ℕ UU ℕ)} :
    Ctx I K ⊢ iprop(any (F := F) c (rqM) -∗ sGo 8 c -∗ sGo 9 c -∗ sGo 11 c -∗ oweX c (due c [8,9,11,6,7,10,14,15,12,13])
      -∗ (owns (c : Thread nD τ) (rqM) fullShare.left (redq I c) -∗ sFly 8 c -∗ sFly 9 c -∗ sFly 11 c -∗ oweX c (due c [6,7,10,14,15,12,13]) -∗ Q ⟨⟩)
      -∗ WP c (onBufs (k0_part21 (F := F)) c v3 v4 v791) Q) := by
  rw [k0_part21_eq_skeleton]
  unfold k0_part21_skel onBufs
  simp only [Prog.lift, Prog.bind_op, Prog.bind_ret, Prog.pure_eq_ret]
  iintro #HC H Hg8 Hg9 Hg11 HO Hk
  iapply (wp_peek_all c (funext fun a => by revert a; decide) _) $$ [H]
  · iexact H
  iintro %v H
  iapply (wp_store_all c (funext fun a => by revert a; decide) _ _) $$ [H]
  · unfold any; iexact H
  iintro H
  rw [h]
  ihave H := (owns_halves (c : Thread nD τ) rqM fullShare (redq I c)).1 $$ [H]
  · iexact H
  icases H with ⟨HL, H⟩
  ihave H := (owns_halves (c : Thread nD τ) rqM fullShare.right (redq I c)).1 $$ H
  icases H with ⟨HM, H⟩
  ihave H := (halves c fullShare.right.right rqM (redq I c)) $$ H
  icases H with ⟨HU, HD⟩
  iapply (wp_go I K 8 c _ (dev10 c) _) $$ HC Hg8 [HU] HO
  · iexact HU
  iintro Hf8 HO
  iapply (wp_go I K 9 c _ (dev11 c) _) $$ HC Hg9 [HD] HO
  · iexact HD
  iintro Hf9 HO
  iapply (wp_go I K 11 c _ (dev12 c) _) $$ HC Hg11 [HM] HO
  · iexact HM
  iintro Hf11 HO
  iapply wp_done
  iapply Hk $$ HL Hf8 Hf9 Hf11 HO

theorem part22 (v3 v4 : BitVec 32) {Q : _ → sProp (MT nD τ sig Unit (Elt F) ℕ UU ℕ)} :
    Ctx I K ⊢ iprop(owns (c : Thread nD τ) (plM 3 0) fullShare (ps I 3 0 c) -∗ any (F := F) c (rpM) -∗ rExp 2 c -∗ rExp 4 c -∗ oweX c (due c [6,7,10,14,15,12,13])
      -∗ (owns (c : Thread nD τ) (rpM) fullShare (redp I c) -∗ any (F := F) c (plM 3 0) -∗ any (F := F) c (dst 2) -∗ any (F := F) c (dst 4) -∗ semVal (recvCell 2 c) 0 -∗ semVal (recvCell 4 c) 0 -∗ oweX c (due c [6,7,10,14,15,12,13]) -∗ Q ⟨⟩)
      -∗ WP c (onBufs (k0_part22 (F := F)) v3 v4) Q) := by
  rw [k0_part22_eq_skeleton]
  unfold k0_part22_skel onBufs
  simp only [Prog.lift, Prog.bind_op, Prog.bind_ret, Prog.pure_eq_ret]
  iintro #HC H0 H Hr2 Hr4 HO Hk
  iapply (wp_come I K 2 c _ (by decide)) $$ HC Hr2 HO
  iintro Hd2 Hz2 HO
  iapply (wp_come I K 4 c _ (by decide)) $$ HC Hr4 HO
  iintro Hd4 Hz4 HO
  iapply (wp_load_sq c fullShare pbM (pR 3 0) (fun _ => rfl) sqP (pv I 3 0 c)) $$ [H0]
  · iexact H0
  iintro H0
  iapply (wp_load_unsq c fullShare s1pM (lR 1) (fun _ => rfl) sqL (ps I 1 0 (p1 c))) $$ [Hd2]
  · iexact Hd2
  iintro Hd2
  iapply (wp_load_all c fullShare (funext fun a => by revert a; decide) _ (snp I (p2 c))) $$ [Hd4]
  · iexact Hd4
  iintro Hd4
  iapply (wp_peek_all c (funext fun a => by revert a; decide) _) $$ [H]
  · iexact H
  iintro %v H
  iapply (wp_store_all c (funext fun a => by revert a; decide) _ _) $$ [H]
  · unfold any; iexact H
  iintro H
  ihave H0 := (any_of (F := F) c (plM 3 0) (ps I 3 0 c)) $$ [H0]
  · iexact H0
  ihave Hd2 := (any_of (F := F) c (dst 2) (val I 2 (tgt 2 c))) $$ [Hd2]
  · iexact Hd2
  ihave Hd4 := (any_of (F := F) c (dst 4) (val I 4 (tgt 4 c))) $$ [Hd4]
  · iexact Hd4
  iapply wp_done
  iapply Hk $$ [H] H0 Hd2 Hd4 Hz2 Hz4 HO
  · iexact H

theorem part23 (v2 v3 v4 : BitVec 32) {Q : _ → sProp (MT nD τ sig Unit (Elt F) ℕ UU ℕ)} :
    Ctx I K ⊢ iprop(owns (c : Thread nD τ) (rpM) fullShare (redp I c) -∗ owns (c : Thread nD τ) (rqM) fullShare.left (redq I c) -∗ any (F := F) c (olM c 0) -∗ sGo 6 c -∗ sGo 7 c -∗ sGo 10 c -∗ oweX c (due c [6,7,10,14,15,12,13])
      -∗ (owns (c : Thread nD τ) (rpM) fullShare.left (redp I c) -∗ owns (c : Thread nD τ) (rqM) fullShare.left (redq I c) -∗ owns (c : Thread nD τ) (olM c 0) fullShare (oh I c 0) -∗ sFly 6 c -∗ sFly 7 c -∗ sFly 10 c -∗ oweX c (due c [14,15,12,13]) -∗ Q ⟨k0_pay93 (redq I c), Scalar.muli v2 256#32⟩)
      -∗ WP c (onBufs (k0_part23 (F := F)) c v2 v3 v4) Q) := by
  rw [k0_part23_eq_skeleton]
  unfold k0_part23_skel onBufs
  simp only [Prog.lift, Prog.bind_op, Prog.bind_ret, Prog.pure_eq_ret]
  iintro #HC H Hq Ho Hg6 Hg7 Hg10 HO Hk
  ihave H := (owns_halves (c : Thread nD τ) rpM fullShare (redp I c)).1 $$ [H]
  · iexact H
  icases H with ⟨HL, H⟩
  ihave H := (owns_halves (c : Thread nD τ) rpM fullShare.right (redp I c)).1 $$ H
  icases H with ⟨HM, H⟩
  ihave H := (halves c fullShare.right.right rpM (redp I c)) $$ H
  icases H with ⟨HU, HD⟩
  iapply (wp_go I K 6 c _ (dev13 c) _) $$ HC Hg6 [HU] HO
  · iexact HU
  iintro Hf6 HO
  iapply (wp_go I K 7 c _ (dev14 c) _) $$ HC Hg7 [HD] HO
  · iexact HD
  iintro Hf7 HO
  iapply (wp_go I K 10 c _ (dev15 c) _) $$ HC Hg10 [HM] HO
  · iexact HM
  iintro Hf10 HO
  iapply (wp_load_all c fullShare.left (funext fun a => by revert a; decide) _ (redp I c)) $$ [HL]
  · iexact HL
  iintro HL
  iapply (wp_peek_off c oM (off5_0 c) _ (oR_inb c 0)) $$ Ho
  iintro %v Ho
  iapply (wp_store_off c oM (off5_0 c) _ (oR_inb c 0) _) $$ Ho
  iintro Ho
  iapply (wp_load_all c fullShare.left (funext fun a => by revert a; decide) _ (redq I c)) $$ [Hq]
  · iexact Hq
  iintro Hq
  iapply wp_done
  iapply Hk $$ [HL] [Hq] [Ho] Hf6 Hf7 Hf10 HO
  · iexact HL
  · iexact Hq
  · iexact Ho

theorem part24 (v3 v4 : BitVec 32) (v877 : FVec F S128x1024 .f32) (v878 : BitVec 32) (h : v877 = oh I c 1) {Q : _ → sProp (MT nD τ sig Unit (Elt F) ℕ UU ℕ)} :
    Ctx I K ⊢ iprop(any (F := F) c (olM c 1) -∗ rExp 8 c -∗ rExp 9 c -∗ sGo 14 c -∗ oweX c (due c [14,15,12,13])
      -∗ (owns (c : Thread nD τ) (olM c 1) fullShare (oh I c 1) -∗ owns (c : Thread nD τ) (hfM s3qM 0) fullShare.left (hf 0 (redq I (p1 c))) -∗ owns (c : Thread nD τ) (hfM s3qM 1) fullShare (hf 1 (redq I (p1 c))) -∗ semVal (recvCell 8 c) 0 -∗ semVal (recvCell 9 c) 0 -∗ sFly 14 c -∗ oweX c (due c [15,12,13]) -∗ Q (Scalar.muli v4 1#32))
      -∗ WP c (onBufs (k0_part24 (F := F)) c v3 v4 v877 v878) Q) := by
  rw [k0_part24_eq_skeleton]
  unfold k0_part24_skel onBufs
  simp only [Prog.lift, Prog.bind_op, Prog.bind_ret, Prog.pure_eq_ret]
  iintro #HC Ho Hr8 Hr9 Hg14 HO Hk
  iapply (wp_peek_off c oM (off5_1 c) _ (oR_inb c 1)) $$ Ho
  iintro %v Ho
  iapply (wp_store_off c oM (off5_1 c) _ (oR_inb c 1) _) $$ Ho
  iintro Ho
  rw [h]
  iapply (wp_come I K 8 c _ (by decide)) $$ HC Hr8 HO
  iintro Hd8 Hz8 HO
  ihave Hd8 := (owns_halves (c : Thread nD τ) (hfM s3qM 0) fullShare (hf 0 (redq I (p1 c)))).1 $$ [Hd8]
  · iexact Hd8
  icases Hd8 with ⟨HL, HR⟩
  iapply (wp_go I K 14 c _ (dev16 c) _) $$ HC Hg14 [HR] HO
  · iexact HR
  iintro Hf14 HO
  iapply (wp_come I K 9 c _ (by decide)) $$ HC Hr9 HO
  iintro Hd9 Hz9 HO
  iapply wp_done
  iapply Hk $$ [Ho] HL [Hd9] Hz8 Hz9 Hf14 HO
  · iexact Ho
  · iexact Hd9

theorem part25 (v3 v4 v903 : BitVec 32) [∀ e, Nonempty (Elt F e)] {Q : _ → sProp (MT nD τ sig Unit (Elt F) ℕ UU ℕ)} :
    Ctx I K ⊢ iprop(owns (c : Thread nD τ) (hfM s3qM 0) fullShare.left (hf 0 (redq I (p1 c))) -∗ owns (c : Thread nD τ) (hfM s3qM 1) fullShare (hf 1 (redq I (p1 c))) -∗ any (F := F) c (olM (p1 c) 1) -∗ sGo 15 c -∗ rExp 6 c -∗ sGo 12 c -∗ oweX c (due c [15,12,13])
      -∗ (owns (c : Thread nD τ) (s3qM) fullShare.left (redq I (p1 c)) -∗ owns (c : Thread nD τ) (olM (p1 c) 1) fullShare (oh I (p1 c) 1) -∗ owns (c : Thread nD τ) (hfM s3pM 0) fullShare.left (hf 0 (redp I (p2 c))) -∗ semVal (recvCell 6 c) 0 -∗ sFly 15 c -∗ sFly 12 c -∗ oweX c (due c [13]) -∗ Q ⟨⟩)
      -∗ WP c (onBufs (k0_part25 (F := F)) c v3 v4 v903) Q) := by
  rw [k0_part25_eq_skeleton]
  unfold k0_part25_skel onBufs
  simp only [Prog.lift, Prog.bind_op, Prog.bind_ret, Prog.pure_eq_ret]
  iintro #HC HA HB Ho Hg15 Hr6 Hg12 HO Hk
  ihave HB := (owns_halves (c : Thread nD τ) (hfM s3qM 1) fullShare (hf 1 (redq I (p1 c)))).1 $$ [HB]
  · iexact HB
  icases HB with ⟨HL, HR⟩
  iapply (wp_go I K 15 c _ (dev17 c) _) $$ HC Hg15 [HR] HO
  · iexact HR
  iintro Hf15 HO
  ihave HA := (of_halves c fullShare.left s3qM (redq I (p1 c))) $$ [HA HL]
  · isplitl [HA]; · iexact HA
    iexact HL
  iapply (wp_load_all c fullShare.left (funext fun a => by revert a; decide) _ (redq I (p1 c))) $$ [HA]
  · iexact HA
  iintro HA
  iapply (wp_peek_off c oM (off6_1 c) _ (oR_inb (p1 c) 1)) $$ Ho
  iintro %v Ho
  iapply (wp_store_off c oM (off6_1 c) _ (oR_inb (p1 c) 1) _) $$ Ho
  iintro Ho
  iapply (wp_come I K 6 c _ (by decide)) $$ HC Hr6 HO
  iintro Hd6 Hz6 HO
  ihave Hd6 := (owns_halves (c : Thread nD τ) (hfM s3pM 0) fullShare (hf 0 (redp I (p2 c)))).1 $$ [Hd6]
  · iexact Hd6
  icases Hd6 with ⟨HL, HR⟩
  iapply (wp_go I K 12 c _ (dev18 c) _) $$ HC Hg12 [HR] HO
  · iexact HR
  iintro Hf12 HO
  iapply wp_done
  iapply Hk $$ [HA] [Ho] HL Hz6 Hf15 Hf12 HO
  · iexact HA
  · iexact Ho

theorem part26 (v3 v4 : BitVec 32) [∀ e, Nonempty (Elt F e)] {Q : _ → sProp (MT nD τ sig Unit (Elt F) ℕ UU ℕ)} :
    Ctx I K ⊢ iprop(owns (c : Thread nD τ) (hfM s3pM 0) fullShare.left (hf 0 (redp I (p2 c))) -∗ any (F := F) c (olM (p2 c) 0) -∗ rExp 7 c -∗ sGo 13 c -∗ rExp 10 c -∗ oweX c (due c [13])
      -∗ (owns (c : Thread nD τ) (s3pM) fullShare.left (redp I (p2 c)) -∗ owns (c : Thread nD τ) (olM (p2 c) 0) fullShare (oh I (p2 c) 0) -∗ owns (c : Thread nD τ) (lnM s4pM 0) fullShare (redp I (p1 c)) -∗ semVal (recvCell 7 c) 0 -∗ semVal (recvCell 10 c) 0 -∗ sFly 13 c -∗ oweX c (due c []) -∗ Q ⟨⟩)
      -∗ WP c (onBufs (k0_part26 (F := F)) c v3 v4) Q) := by
  rw [k0_part26_eq_skeleton]
  unfold k0_part26_skel onBufs
  simp only [Prog.lift, Prog.bind_op, Prog.bind_ret, Prog.pure_eq_ret]
  iintro #HC HA Ho Hr7 Hg13 Hr10 HO Hk
  iapply (wp_come I K 7 c _ (by decide)) $$ HC Hr7 HO
  iintro Hd7 Hz7 HO
  ihave Hd7 := (owns_halves (c : Thread nD τ) (hfM s3pM 1) fullShare (hf 1 (redp I (p2 c)))).1 $$ [Hd7]
  · iexact Hd7
  icases Hd7 with ⟨HL, HR⟩
  iapply (wp_go I K 13 c _ (dev19 c) _) $$ HC Hg13 [HR] HO
  · iexact HR
  iintro Hf13 HO
  ihave HA := (of_halves c fullShare.left s3pM (redp I (p2 c))) $$ [HA HL]
  · isplitl [HA]; · iexact HA
    iexact HL
  iapply (wp_load_all c fullShare.left (funext fun a => by revert a; decide) _ (redp I (p2 c))) $$ [HA]
  · iexact HA
  iintro HA
  iapply (wp_peek_off c oM (off7_0 c) _ (oR_inb (p2 c) 0)) $$ Ho
  iintro %v Ho
  iapply (wp_store_off c oM (off7_0 c) _ (oR_inb (p2 c) 0) _) $$ Ho
  iintro Ho
  iapply (wp_come I K 10 c _ (by decide)) $$ HC Hr10 HO
  iintro Hd10 Hz10 HO
  iapply wp_done
  iapply Hk $$ [HA] [Ho] [Hd10] Hz7 Hz10 Hf13 HO
  · iexact HA
  · iexact Ho
  · iexact Hd10

theorem part27 (v3 v4 : BitVec 32) {Q : _ → sProp (MT nD τ sig Unit (Elt F) ℕ UU ℕ)} :
    Ctx I K ⊢ iprop(owns (c : Thread nD τ) (lnM s4pM 0) fullShare (redp I (p1 c)) -∗ any (F := F) c (olM (p1 c) 0) -∗ any (F := F) c (olM (p2 c) 1) -∗ rExp 11 c -∗ rExp 12 c -∗ oweX c (due c [])
      -∗ (any (F := F) c (lnM s4pM 0) -∗ owns (c : Thread nD τ) (olM (p1 c) 0) fullShare (oh I (p1 c) 0) -∗ owns (c : Thread nD τ) (olM (p2 c) 1) fullShare (oh I (p2 c) 1) -∗ any (F := F) c (lnM s4qM 0) -∗ owns (c : Thread nD τ) (qtM s4pM 0) fullShare (hf 0 (redp I (p1 (p2 c)))) -∗ semVal (recvCell 11 c) 0 -∗ semVal (recvCell 12 c) 0 -∗ oweX c (due c []) -∗ Q ⟨⟩)
      -∗ WP c (onBufs (k0_part27 (F := F)) c v3 v4) Q) := by
  rw [k0_part27_eq_skeleton]
  unfold k0_part27_skel onBufs
  simp only [Prog.lift, Prog.bind_op, Prog.bind_ret, Prog.pure_eq_ret]
  iintro #HC HA Ho Ho2 Hr11 Hr12 HO Hk
  iapply (wp_load_unsq c fullShare s4pM (lR 0) (fun _ => rfl) sqL (redp I (p1 c))) $$ [HA]
  · iexact HA
  iintro HA
  iapply (wp_peek_off c oM (off6_0 c) _ (oR_inb (p1 c) 0)) $$ Ho
  iintro %v Ho
  iapply (wp_store_off c oM (off6_0 c) _ (oR_inb (p1 c) 0) _) $$ Ho
  iintro Ho
  ihave Ho := (Entails.of_eq (congrArg (fun X => owns (c : Thread nD τ) (olM (p1 c) 0) fullShare X) (pay96_ld (redp I (p1 c))))) $$ [Ho]
  · iexact Ho
  iapply (wp_come I K 11 c _ (by decide)) $$ HC Hr11 HO
  iintro Hd11 Hz11 HO
  iapply (wp_load_unsq c fullShare s4qM (lR 0) (fun _ => rfl) sqL (redq I (p2 c))) $$ [Hd11]
  · iexact Hd11
  iintro Hd11
  iapply (wp_peek_off c oM (off7_1 c) _ (oR_inb (p2 c) 1)) $$ Ho2
  iintro %v Ho2
  iapply (wp_store_off c oM (off7_1 c) _ (oR_inb (p2 c) 1) _) $$ Ho2
  iintro Ho2
  ihave Ho2 := (Entails.of_eq (congrArg (fun X => owns (c : Thread nD τ) (olM (p2 c) 1) fullShare X) (pay97_ld (redq I (p2 c))))) $$ [Ho2]
  · iexact Ho2
  iapply (wp_come I K 12 c _ (by decide)) $$ HC Hr12 HO
  iintro Hd12 Hz12 HO
  ihave HA := (any_of (F := F) c (lnM s4pM 0) (redp I (p1 c))) $$ [HA]
  · iexact HA
  ihave Hd11 := (any_of (F := F) c (lnM s4qM 0) (redq I (p2 c))) $$ [Hd11]
  · iexact Hd11
  rw [show val I 12 (tgt 12 c) = hf 0 (redp I (p1 (p2 c))) from congrArg (fun d => hf 0 (redp I d)) (p2_p1 c)]
  iapply wp_done
  iapply Hk $$ HA [Ho] [Ho2] Hd11 [Hd12] Hz11 Hz12 HO
  · iexact Ho
  · iexact Ho2
  · iexact Hd12

theorem part28 (v3 v4 v15 : BitVec 32) [∀ e, Nonempty (Elt F e)] {Q : _ → sProp (MT nD τ sig Unit (Elt F) ℕ UU ℕ)} :
    Ctx I K ⊢ iprop(owns (c : Thread nD τ) (qtM s4pM 0) fullShare (hf 0 (redp I (p1 (p2 c)))) -∗ any (F := F) c (olM (p1 (p2 c)) 0) -∗ rExp 13 c -∗ rExp 14 c -∗ oweX c (due c [])
      -∗ (any (F := F) c (lnM s4pM 1) -∗ owns (c : Thread nD τ) (olM (p1 (p2 c)) 0) fullShare (oh I (p1 (p2 c)) 0) -∗ owns (c : Thread nD τ) (qtM s4qM 0) fullShare (hf 0 (redq I (p1 (p2 c)))) -∗ semVal (recvCell 13 c) 0 -∗ semVal (recvCell 14 c) 0 -∗ oweX c (due c []) -∗ Q ⟨⟩)
      -∗ WP c (onBufs (k0_part28 (F := F)) c v3 v4 v15) Q) := by
  rw [k0_part28_eq_skeleton]
  unfold k0_part28_skel onBufs
  simp only [Prog.lift, Prog.bind_op, Prog.bind_ret, Prog.pure_eq_ret]
  iintro #HC HA Ho Hr13 Hr14 HO Hk
  iapply (wp_come I K 13 c _ (by decide)) $$ HC Hr13 HO
  iintro Hd13 Hz13 HO
  rw [show val I 13 (tgt 13 c) = hf 1 (redp I (p1 (p2 c))) from congrArg (fun d => hf 1 (redp I d)) (p2_p1 c)]
  ihave HA := (of_quarters c fullShare s4pM (redp I (p1 (p2 c)))) $$ [HA Hd13]
  · isplitl [HA]; · iexact HA
    iexact Hd13
  iapply (wp_load_unsq c fullShare s4pM (lR 1) (fun _ => rfl) sqL (redp I (p1 (p2 c)))) $$ [HA]
  · iexact HA
  iintro HA
  iapply (wp_peek_off c oM (off8_0 c) _ (oR_inb (p1 (p2 c)) 0)) $$ Ho
  iintro %v Ho
  iapply (wp_store_off c oM (off8_0 c) _ (oR_inb (p1 (p2 c)) 0) _) $$ Ho
  iintro Ho
  ihave Ho := (Entails.of_eq (congrArg (fun X => owns (c : Thread nD τ) (olM (p1 (p2 c)) 0) fullShare X) (pay98_ld (redp I (p1 (p2 c)))))) $$ [Ho]
  · iexact Ho
  iapply (wp_come I K 14 c _ (by decide)) $$ HC Hr14 HO
  iintro Hd14 Hz14 HO
  ihave HA := (any_of (F := F) c (lnM s4pM 1) (redp I (p1 (p2 c)))) $$ [HA]
  · iexact HA
  iapply wp_done
  iapply Hk $$ HA [Ho] [Hd14] Hz13 Hz14 HO
  · iexact Ho
  · iexact Hd14

theorem part29 (v15 : BitVec 32) [∀ e, Nonempty (Elt F e)] {Q : _ → sProp (MT nD τ sig Unit (Elt F) ℕ UU ℕ)} :
    Ctx I K ⊢ iprop(owns (c : Thread nD τ) (qtM s4qM 0) fullShare (hf 0 (redq I (p1 (p2 c)))) -∗ any (F := F) c (olM (p1 (p2 c)) 1) -∗ rExp 15 c -∗ sFly 0 c -∗ sFly 1 c -∗ oweX c 0
      -∗ (any (F := F) c (lnM s4qM 1) -∗ owns (c : Thread nD τ) (olM (p1 (p2 c)) 1) fullShare (oh I (p1 (p2 c)) 1) -∗ semVal (recvCell 15 c) 0 -∗ owns (c : Thread nD τ) (src 0) (qs 0) (val I 0 c) -∗ semVal (sendCell 0 c) 0 -∗ owns (c : Thread nD τ) (src 1) (qs 1) (val I 1 c) -∗ semVal (sendCell 1 c) 0 -∗ oweX c 0 -∗ Q ⟨⟩)
      -∗ WP c (onBufs (k0_part29 (F := F)) c v15) Q) := by
  rw [k0_part29_eq_skeleton]
  unfold k0_part29_skel onBufs
  simp only [Prog.lift, Prog.bind_op, Prog.bind_ret, Prog.pure_eq_ret]
  iintro #HC HA Ho Hr15 Hf0 Hf1 HO Hk
  iapply (wp_come I K 15 c [] (by decide)) $$ HC Hr15 [HO]
  · iexact HO
  iintro Hd15 Hz15 HO
  ihave HA := (of_quarters c fullShare s4qM (redq I (p1 (p2 c)))) $$ [HA Hd15]
  · isplitl [HA]; · iexact HA
    iexact Hd15
  iapply (wp_load_unsq c fullShare s4qM (lR 1) (fun _ => rfl) sqL (redq I (p1 (p2 c)))) $$ [HA]
  · iexact HA
  iintro HA
  iapply (wp_peek_off c oM (off8_1 c) _ (oR_inb (p1 (p2 c)) 1)) $$ Ho
  iintro %v Ho
  iapply (wp_store_off c oM (off8_1 c) _ (oR_inb (p1 (p2 c)) 1) _) $$ Ho
  iintro Ho
  ihave Ho := (Entails.of_eq (congrArg (fun X => owns (c : Thread nD τ) (olM (p1 (p2 c)) 1) fullShare X) (pay99_ld (redq I (p1 (p2 c)))))) $$ [Ho]
  · iexact Ho
  iapply (wp_gone I K 0 c rfl) $$ HC Hf0 [HO]
  · iexact HO
  iintro Hs0 Hy0 HO
  iapply (wp_gone I K 1 c rfl) $$ HC Hf1 HO
  iintro Hs1 Hy1 HO
  ihave HA := (any_of (F := F) c (lnM s4qM 1) (redq I (p1 (p2 c)))) $$ [HA]
  · iexact HA
  iapply wp_done
  iapply Hk $$ HA [Ho] Hz15 Hs0 Hy0 Hs1 Hy1 HO
  · iexact Ho

theorem part30  {Q : _ → sProp (MT nD τ sig Unit (Elt F) ℕ UU ℕ)} :
    Ctx I K ⊢ iprop(sFly 2 c -∗ sFly 3 c -∗ sFly 4 c -∗ sFly 5 c -∗ sFly 6 c -∗ oweX c 0
      -∗ (owns (c : Thread nD τ) (src 2) (qs 2) (val I 2 c) -∗ semVal (sendCell 2 c) 0 -∗ owns (c : Thread nD τ) (src 3) (qs 3) (val I 3 c) -∗ semVal (sendCell 3 c) 0 -∗ owns (c : Thread nD τ) (src 4) (qs 4) (val I 4 c) -∗ semVal (sendCell 4 c) 0 -∗ owns (c : Thread nD τ) (src 5) (qs 5) (val I 5 c) -∗ semVal (sendCell 5 c) 0 -∗ owns (c : Thread nD τ) (src 6) (qs 6) (val I 6 c) -∗ semVal (sendCell 6 c) 0 -∗ oweX c 0 -∗ Q ⟨⟩)
      -∗ WP c (onBufs (k0_part30 (F := F))) Q) := by
  rw [k0_part30_eq_skeleton]
  unfold k0_part30_skel onBufs
  simp only [Prog.lift, Prog.bind_op, Prog.bind_ret, Prog.pure_eq_ret]
  iintro #HC Hf2 Hf3 Hf4 Hf5 Hf6 HO Hk
  iapply (wp_gone I K 2 c rfl) $$ HC Hf2 HO
  iintro Hs2 Hy2 HO
  iapply (wp_gone I K 3 c rfl) $$ HC Hf3 HO
  iintro Hs3 Hy3 HO
  iapply (wp_gone I K 4 c rfl) $$ HC Hf4 HO
  iintro Hs4 Hy4 HO
  iapply (wp_gone I K 5 c rfl) $$ HC Hf5 HO
  iintro Hs5 Hy5 HO
  iapply (wp_gone I K 6 c rfl) $$ HC Hf6 HO
  iintro Hs6 Hy6 HO
  iapply wp_done
  iapply Hk $$ Hs2 Hy2 Hs3 Hy3 Hs4 Hy4 Hs5 Hy5 Hs6 Hy6 HO

theorem part31  {Q : _ → sProp (MT nD τ sig Unit (Elt F) ℕ UU ℕ)} :
    Ctx I K ⊢ iprop(sFly 7 c -∗ sFly 8 c -∗ sFly 9 c -∗ sFly 10 c -∗ sFly 11 c -∗ oweX c 0
      -∗ (owns (c : Thread nD τ) (src 7) (qs 7) (val I 7 c) -∗ semVal (sendCell 7 c) 0 -∗ owns (c : Thread nD τ) (src 8) (qs 8) (val I 8 c) -∗ semVal (sendCell 8 c) 0 -∗ owns (c : Thread nD τ) (src 9) (qs 9) (val I 9 c) -∗ semVal (sendCell 9 c) 0 -∗ owns (c : Thread nD τ) (src 10) (qs 10) (val I 10 c) -∗ semVal (sendCell 10 c) 0 -∗ owns (c : Thread nD τ) (src 11) (qs 11) (val I 11 c) -∗ semVal (sendCell 11 c) 0 -∗ oweX c 0 -∗ Q ⟨⟩)
      -∗ WP c (onBufs (k0_part31 (F := F))) Q) := by
  rw [k0_part31_eq_skeleton]
  unfold k0_part31_skel onBufs
  simp only [Prog.lift, Prog.bind_op, Prog.bind_ret, Prog.pure_eq_ret]
  iintro #HC Hf7 Hf8 Hf9 Hf10 Hf11 HO Hk
  iapply (wp_gone I K 7 c rfl) $$ HC Hf7 HO
  iintro Hs7 Hy7 HO
  iapply (wp_gone I K 8 c rfl) $$ HC Hf8 HO
  iintro Hs8 Hy8 HO
  iapply (wp_gone I K 9 c rfl) $$ HC Hf9 HO
  iintro Hs9 Hy9 HO
  iapply (wp_gone I K 10 c rfl) $$ HC Hf10 HO
  iintro Hs10 Hy10 HO
  iapply (wp_gone I K 11 c rfl) $$ HC Hf11 HO
  iintro Hs11 Hy11 HO
  iapply wp_done
  iapply Hk $$ Hs7 Hy7 Hs8 Hy8 Hs9 Hy9 Hs10 Hy10 Hs11 Hy11 HO

end Cert.KernelIdeal.Run
-- ==== Proof.Body3.lean ====
/-
  What is left for the whole body: the pieces that only compute, the sixteen copies listed, and the buffers put together again.
-/
module

public import proofs.«01_k».proof.Proof.Body1
public import proofs.«01_k».proof.Proof.Body2

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces that only compute -/

section Pure
variable (c : Dev nD)

theorem part4 (v67 : FVec F S256x1024 .f32) (v68 v69 : FVec F S256x256 .f32) (v104 v106 : FVec F S256x128 .f32) (v107 : FVec F S128x256 .f32) (v : FVec F S256x256 .f32)
    {Q : _ → sProp (MT nD τ sig Unit (Elt F) ℕ UU ℕ)} :
    Q ⟨k0_pay14 v104 v106 v107 v, k0_pay15 v67 v68 v69, k0_pay17 v67 v68 v69, k0_pay18 v67 v68⟩
      ⊢ WP c (onBufs (k0_part4 (F := F)) v67 v68 v69 v104 v106 v107 v) Q := by
  rw [k0_part4_eq_skeleton]; exact wp_done c _ Q

theorem part5 (v67 : FVec F S256x1024 .f32) (v68 v69 : FVec F S256x256 .f32) (v152 v153 : FVec F S256x128 .f32)
    {Q : _ → sProp (MT nD τ sig Unit (Elt F) ℕ UU ℕ)} :
    Q ⟨k0_pay19 v152 v153, k0_pay20 v67 v68 v69, k0_pay21 v67 v68 v69, k0_pay22 v69, k0_pay23 v67 v68⟩
      ⊢ WP c (onBufs (k0_part5 (F := F)) v67 v68 v69 v152 v153) Q := by
  rw [k0_part5_eq_skeleton]; exact wp_done c _ Q

theorem part8 (v241 : FVec F S256x1024 .f32) (v242 v243 : FVec F S256x256 .f32) (v263 : FVec F S256x128 .f32) (v267 v270 : FVec F S256x256 .f32)
    {Q : _ → sProp (MT nD τ sig Unit (Elt F) ℕ UU ℕ)} :
    Q ⟨k0_pay35 v263 v267 v270, k0_pay36 v241 v242 v243, k0_pay37 v241 v242 v243, k0_pay38 v243, k0_pay39 v241 v242, Scalar.ofBits .f32 0x3DB504F3#32⟩
      ⊢ WP c (onBufs (k0_part8 (F := F)) v241 v242 v243 v263 v267 v270) Q := by
  rw [k0_part8_eq_skeleton]; exact wp_done c _ Q

theorem part9 (v241 : FVec F S256x1024 .f32) (v242 v243 : FVec F S256x256 .f32) (v314 : FVec F S256x128 .f32) (v316 : FVec F S256x256 .f32) (v : F .f32)
    {Q : _ → sProp (MT nD τ sig Unit (Elt F) ℕ UU ℕ)} :
    Q ⟨k0_pay40 v314 v316 v, k0_pay41 v241 v242 v243, k0_pay42 v241 v242 v243, k0_pay43 v241⟩
      ⊢ WP c (onBufs (k0_part9 (F := F)) v241 v242 v243 v314 v316 v) Q := by
  rw [k0_part9_eq_skeleton]; exact wp_done c _ Q

theorem part12 (v405 : FVec F S256x1024 .f32) (v406 v407 : FVec F S256x256 .f32) (v439 v440 : FVec F S256x128 .f32)
    {Q : _ → sProp (MT nD τ sig Unit (Elt F) ℕ UU ℕ)} :
    Q ⟨k0_pay55 v439 v440, k0_pay56 v405 v406 v407, k0_pay57 v405 v406 v407, k0_pay58 v407, k0_pay59 v405 v406⟩
      ⊢ WP c (onBufs (k0_part12 (F := F)) v405 v406 v407 v439 v440) Q := by
  rw [k0_part12_eq_skeleton]; exact wp_done c _ Q

theorem part13 (v405 : FVec F S256x1024 .f32) (v406 v407 : FVec F S256x256 .f32) (v478 : FVec F S256x128 .f32) (v487 : FVec F S256x256 .f32)
    {Q : _ → sProp (MT nD τ sig Unit (Elt F) ℕ UU ℕ)} :
    Q ⟨k0_pay60 v478 v487, k0_pay61 v405 v406 v407, k0_pay62 v405 v406 v407, k0_pay63 v407, k0_pay64 v405 v406⟩
      ⊢ WP c (onBufs (k0_part13 (F := F)) v405 v406 v407 v478 v487) Q := by
  rw [k0_part13_eq_skeleton]; exact wp_done c _ Q

theorem part17 (v619 : FVec F S256x1024 .f32) (v620 v621 : FVec F S256x256 .f32) (v624 : FVec F S256x128 .f32) (v626 : FVec F S256x256 .f32) (v : F .f32)
    {Q : _ → sProp (MT nD τ sig Unit (Elt F) ℕ UU ℕ)} :
    Q ⟨k0_pay76 v624 v626 v, k0_pay77 v619 v620 v621, k0_pay78 v619 v620 v621, k0_pay79 v619⟩
      ⊢ WP c (onBufs (k0_part17 (F := F)) v619 v620 v621 v624 v626 v) Q := by
  rw [k0_part17_eq_skeleton]; exact wp_done c _ Q

theorem part18 (v619 : FVec F S256x1024 .f32) (v620 v621 : FVec F S256x256 .f32) (v673 : FVec F S256x128 .f32)
    {Q : _ → sProp (MT nD τ sig Unit (Elt F) ℕ UU ℕ)} :
    Q ⟨k0_pay80 v620 v621 v673, k0_pay81 v619 v620 v621, k0_pay82 v621, k0_pay83 v619 v620, k0_pay84 v619 v620⟩
      ⊢ WP c (onBufs (k0_part18 (F := F)) v619 v620 v621 v673) Q := by
  rw [k0_part18_eq_skeleton]; exact wp_done c _ Q

/-- One piece, then the rest. -/
theorem wp_then {α β : Type} (p : Prog (TpuEff nD τ sig (Elt F) Λ₀ .tc) α) (k : α → Prog (TpuEff nD τ sig (Elt F) Λ₀ .tc) β)
    {Q : β → sProp (MT nD τ sig Unit (Elt F) ℕ UU ℕ)} : WP c p (fun a => WP c (k a) Q) ⊢ WP c (p >>= k) Q :=
  Entails.of_eq (wp_bind frame (wpE (defs₀ (F := F)) 𝒱₀ (c : Thread nD τ) none) Set.univ p k Q).symm

end Pure

/-! ## The sixteen copies, listed -/

theorem list_copies (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  simp only [bigSepL]
  rfl

theorem all_go (c : Dev nD) :
    iprop((bigSep Finset.univ fun k => sRdy k c) ∗ (bigSep Finset.univ fun k => give k (tgt k c)))
      ⊢ (bigSep Finset.univ fun k => sGo k c : sProp 𝕄) := by
  unfold sGo
  exact Entails.of_eq (bigSep_sep _ _ _).symm

/-! ## The buffers put together -/

section Back
variable [∀ e, Nonempty (Elt F e)] (c : Dev nD)

theorem any_of_halves (M : Memref sig .tc .vmem S128x1024 .bf16) :
    iprop(any (F := F) c (hfM M 0) ∗ any (F := F) c (hfM M 1)) ⊢ any (F := F) c M := by
  refine BIBase.Entails.trans (Entails.of_eq ?_) (any_of_rects c hR (fun _ _ => rfl) hR_disj hR_cov M)
  rw [bigSep_fin_two]; rfl

/-- A plane of which one share was kept and the other went out in halves. -/
theorem back_half (M : Memref sig .tc .vmem S128x1024 .bf16) (X : Vec F S128x1024 .bf16) :
    iprop(owns (c : Thread nD τ) M fullShare.left X ∗ owns (c : Thread nD τ) (hfM M 0) fullShare.right (hf 0 X)
      ∗ owns (c : Thread nD τ) (hfM M 1) fullShare.right (hf 1 X)) ⊢ any (F := F) c M := by
  iintro ⟨H, H0, H1⟩
  ihave H2 := (of_halves c fullShare.right M X) $$ [H0 H1]
  · isplitl [H0]; · iexact H0
    iexact H1
  iapply (any_of (F := F) c M X)
  iapply (owns_halves (c : Thread nD τ) M fullShare X).2
  isplitl [H]; · iexact H
  iexact H2

/-- A plane of which one share was kept, one went out whole and one in halves. -/
theorem back_three (M : Memref sig .tc .vmem S128x1024 .bf16) (X : Vec F S128x1024 .bf16) :
    iprop(owns (c : Thread nD τ) M fullShare.left X ∗ owns (c : Thread nD τ) M fullShare.right.left X
      ∗ owns (c : Thread nD τ) (hfM M 0) fullShare.right.right (hf 0 X)
      ∗ owns (c : Thread nD τ) (hfM M 1) fullShare.right.right (hf 1 X)) ⊢ any (F := F) c M := by
  iintro ⟨H, HL, H0, H1⟩
  ihave H2 := (of_halves c fullShare.right.right M X) $$ [H0 H1]
  · isplitl [H0]; · iexact H0
    iexact H1
  iapply (any_of (F := F) c M X)
  iapply (owns_halves (c : Thread nD τ) M fullShare X).2
  isplitl [H]; · iexact H
  iapply (owns_halves (c : Thread nD τ) M fullShare.right X).2
  isplitl [HL]; · iexact HL
  iexact H2

end Back

/-- The sixteen places of a device are its eight landing buffers. -/
theorem places (c : Dev nD) :
    iprop(any (F := F) c s1pM ∗ any (F := F) c s1qM ∗ any (F := F) c s2pM ∗ any (F := F) c s2qM ∗ any (F := F) c s3pM ∗ any (F := F) c s3qM
        ∗ any (F := F) c s4pM ∗ any (F := F) c s4qM)
      ⊢ bigSep Finset.univ fun k => any (F := F) c (dst k) := by
  rw [list_copies]
  iintro ⟨H1, H2, H3, H4, H5, H6, H7, H8⟩
  ihave H1 := (any_planes (F := F) c s1pM) $$ H1
  icases H1 with ⟨H1a, H1b⟩
  ihave H2 := (any_planes (F := F) c s1qM) $$ H2
  icases H2 with ⟨H2a, H2b⟩
  ihave H5 := (any_halves (F := F) c s3pM) $$ H5
  icases H5 with ⟨H5a, H5b⟩
  ihave H6 := (any_halves (F := F) c s3qM) $$ H6
  icases H6 with ⟨H6a, H6b⟩
  ihave H7 := (any_planes (F := F) c s4pM) $$ H7
  icases H7 with ⟨H7a, H7b⟩
  ihave H7b := (any_quarters (F := F) c s4pM) $$ H7b
  icases H7b with ⟨H7b, H7c⟩
  ihave H8 := (any_planes (F := F) c s4qM) $$ H8
  icases H8 with ⟨H8a, H8b⟩
  ihave H8b := (any_quarters (F := F) c s4qM) $$ H8b
  icases H8b with ⟨H8b, H8c⟩
  isplitl [H1a]; · iexact H1a
  isplitl [H2a]; · iexact H2a
  isplitl [H1b]; · iexact H1b
  isplitl [H2b]; · iexact H2b
  isplitl [H3]; · iexact H3
  isplitl [H4]; · iexact H4
  isplitl [H5a]; · iexact H5a
  isplitl [H5b]; · iexact H5b
  isplitl [H6a]; · iexact H6a
  isplitl [H6b]; · iexact H6b
  isplitl [H7a]; · iexact H7a
  isplitl [H8a]; · iexact H8a
  isplitl [H7b]; · iexact H7b
  isplitl [H7c]; · iexact H7c
  isplitl [H8b]; · iexact H8b
  iexact H8c

/-- The other three devices, one after the other. -/
theorem list_others (c : Dev nD) (Φ : Dev nD → sProp 𝕄) :
    bigSep (Finset.univ.erase c) Φ = iprop(Φ (nx 1 c) ∗ Φ (nx 2 c) ∗ Φ (nx 3 c)) := by
  rw [bigSep_eq_bigSepL_of_eq [nx 1 c, nx 2 c, nx 3 c] (by revert c; decide) (by revert c; decide)]
  simp only [bigSepL]
  rfl

end Cert.KernelIdeal.Run
-- ==== Proof.Body4.lean ====
/-
  The body on one device, whole: from what the device is given at the start to everything back, every semaphore at zero and the
  result in place.
-/
module

public import proofs.«01_k».proof.Proof.Body3

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ) (c : Dev nD)

/-- The operands a device holds. -/
def ins : sProp 𝕄 :=
  iprop(owns (c : Thread nD τ) xM fullShare (I.x c) ∗ owns (c : Thread nD τ) wqM fullShare (I.wq c) ∗ owns (c : Thread nD τ) woM fullShare (I.wo c)
    ∗ owns (c : Thread nD τ) wkM fullShare (I.wk c) ∗ owns (c : Thread nD τ) wvM fullShare (I.wv c))

/-- What the body starts from: the words, the right to its copies and to what comes in, the operands, and the buffers it does not
    give away. -/
def bodyPre : sProp 𝕄 :=
  iprop(word (nx 1 c) c ∗ word (nx 2 c) c ∗ word (nx 3 c) c ∗ cred (tallyAt (barCell c) () 3) ∗ atPos ER (barCell c) 0 ∅ 0
    ∗ (bigSep Finset.univ fun k => sRdy k c) ∗ (bigSep Finset.univ fun k => rExp k c) ∗ ins I c
    ∗ any (F := F) c oM ∗ any (F := F) c pbM ∗ any (F := F) c snpM ∗ any (F := F) c snqM ∗ any (F := F) c rpM ∗ any (F := F) c rqM ∗ oweX c (O₀ c))

/-- What it ends with. -/
def bodyPost : sProp 𝕄 :=
  iprop(semVal (barCell c) 0 ∗ (bigSep Finset.univ fun k => semVal (sendCell k c) 0) ∗ (bigSep Finset.univ fun k => semVal (recvCell k c) 0) ∗ ins I c
    ∗ owns (c : Thread nD τ) oM fullShare (outV I)
    ∗ (any (F := F) c pbM ∗ any (F := F) c s1pM ∗ any (F := F) c s1qM ∗ any (F := F) c snpM ∗ any (F := F) c s2pM ∗ any (F := F) c snqM ∗ any (F := F) c s2qM
      ∗ any (F := F) c rpM ∗ any (F := F) c rqM ∗ any (F := F) c s3pM ∗ any (F := F) c s3qM ∗ any (F := F) c s4pM ∗ any (F := F) c s4qM)
    ∗ oweX c 0)

set_option maxHeartbeats 4000000 in
theorem body_run [∀ e, Nonempty (Elt F e)] {Q : PUnit → sProp (MT nD τ sig Unit (Elt F) ℕ UU ℕ)} :
    Ctx I K ⊢ iprop(bodyPre I c -∗ (bodyPost I c -∗ Q ⟨⟩) -∗ WP c (onBufs (cc0_body (F := F))) Q) := by
  rw [cc0_body_eq_skeleton]
  unfold cc0_body_skel onBufs
  rw [k0_part32_eq_skeleton]
  unfold k0_part32_skel
  unfold bodyPre ins
  rw [list_copies (fun k => rExp k c)]
  iintro #HC ⟨Hw1, Hw2, Hw3, Hcr, Hat, HR, ⟨Hr0, Hr1, Hr2, Hr3, Hr4, Hr5, Hr6, Hr7, Hr8, Hr9, Hr10, Hr11, Hr12, Hr13, Hr14, Hr15⟩,
    ⟨Hx, Hwq, Hwo, Hwk, Hwv⟩, Ho, Hpb, Hsnp, Hsnq, Hrp, Hrq, HO⟩ Hk
  ihave Hpb := (any_pb (F := F) c) $$ Hpb
  icases Hpb with ⟨P00, P01, P10, P11, P20, P21, P30, P31⟩
  ihave Ho := (any_out (F := F) c) $$ Ho
  icases Ho with ⟨O0, O1, O2, O3, O4, O5, O6, O7⟩
  iapply (wp_then c)
  iapply (wp_then c)
  iapply (part1 I K c) $$ HC Hw1 HO
  iintro HO %v2 %v3 %v4 %v15 %v30 %v32
  dsimp only
  iapply (wp_then c)
  iapply (part2 I K c) $$ HC Hw2 Hw3 Hcr Hat Hwq Hwo Hwk Hwv HO
  iintro Hg Hzb Hwq Hwo Hwk Hwv HO
  ihave Hg := (all_go (F := F) c) $$ [HR Hg]
  · isplitl [HR]; · iexact HR
    iexact Hg
  ihave Hg := (Entails.of_eq (list_copies (fun k => sGo k c))) $$ Hg
  icases Hg with ⟨G0, G1, G2, G3, G4, G5, G6, G7, G8, G9, G10, G11, G12, G13, G14, G15⟩
  dsimp only
  iapply (wp_then c)
  iapply (part3 I c) $$ Hx
  iintro Hx
  dsimp only
  iapply (wp_then c)
  iapply (part4 c)
  dsimp only
  iapply (wp_then c)
  iapply (part5 c)
  dsimp only
  iapply (wp_then c)
  iapply (part6 I K c _ _ _ _ _ _ _ _ _ _ _ _ rfl rfl) $$ HC P00 P01 G0 HO
  iintro F0 P01 HO
  dsimp only
  iapply (wp_then c)
  iapply (part7 I K c) $$ HC P01 G1 Hx HO
  iintro F1 Hx HO
  dsimp only
  iapply (wp_then c)
  iapply (part8 c)
  dsimp only
  iapply (wp_then c)
  iapply (part9 c)
  dsimp only
  iapply (wp_then c)
  iapply (part10 I c _ _ _ _ _ _ _ _ _ _ _ _ rfl rfl) $$ P10 P11
  iintro P10 P11
  iapply (wp_then c)
  iapply (part11 I K c) $$ HC P10 G2 Hx HO
  iintro F2 Hx HO
  dsimp only
  iapply (wp_then c)
  iapply (part12 c)
  dsimp only
  iapply (wp_then c)
  iapply (part13 c)
  dsimp only
  iapply (wp_then c)
  iapply (part14 I K c _ _ _ _ _ _ _ _ _ _ _ rfl rfl) $$ HC P20 P21 G3 HO
  iintro F3 P20 HO
  iapply (wp_then c)
  iapply (part15 I K c) $$ HC P20 Hsnp Hr0 G4 HO
  iintro P20 D0 Z0 F4 HO
  iapply (wp_then c)
  iapply (part16 I K c) $$ HC P11 Hsnq Hr1 G5 Hx HO
  iintro P11 D1 Z1 F5 Hx HO
  dsimp only
  iapply (wp_then c)
  iapply (part17 c)
  dsimp only
  iapply (wp_then c)
  iapply (part18 c)
  dsimp only
  iapply (wp_then c)
  iapply (part19 c) $$ P30
  iintro P30
  dsimp only
  iapply (wp_then c)
  iapply (part20 I K c _ _ _ _ rfl rfl) $$ HC P30 P31 Hr3 Hr5 HO
  iintro P30 P31 D3 D5 Z3 Z5 HO
  iapply (wp_then c)
  iapply (part21 I K c _ _ _ rfl) $$ HC Hrq G8 G9 G11 HO
  iintro Hrq F8 F9 F11 HO
  iapply (wp_then c)
  iapply (part22 I K c) $$ HC P30 Hrp Hr2 Hr4 HO
  iintro Hrp P30 D2 D4 Z2 Z4 HO
  iapply (wp_then c)
  iapply (part23 I K c) $$ HC Hrp Hrq O0 G6 G7 G10 HO
  iintro Hrp Hrq O0 F6 F7 F10 HO
  dsimp only
  iapply (wp_then c)
  iapply (part24 I K c _ _ _ _ rfl) $$ HC O1 Hr8 Hr9 G14 HO
  iintro O1 A0 A1 Z8 Z9 F14 HO
  iapply (wp_then c)
  iapply (part25 I K c) $$ HC A0 A1 O2 G15 Hr6 G12 HO
  iintro A O2 B0 Z6 F15 F12 HO
  iapply (wp_then c)
  iapply (part26 I K c) $$ HC B0 O3 Hr7 G13 Hr10 HO
  iintro B O3 C0 Z7 Z10 F13 HO
  iapply (wp_then c)
  iapply (part27 I K c) $$ HC C0 O4 O5 Hr11 Hr12 HO
  iintro C0 O4 O5 E0 C1 Z11 Z12 HO
  iapply (wp_then c)
  iapply (part28 I K c) $$ HC C1 O6 Hr13 Hr14 HO
  iintro C1 O6 E1 Z13 Z14 HO
  iapply (wp_then c)
  iapply (part29 I K c) $$ HC E1 O7 Hr15 F0 F1 [HO]
  · iexact HO
  iintro E1 O7 Z15 S0 Y0 S1 Y1 HO
  iapply (wp_then c)
  iapply (part30 I K c) $$ HC F2 F3 F4 F5 F6 HO
  iintro S2 Y2 S3 Y3 S4 Y4 S5 Y5 S6 Y6 HO
  iapply (wp_then c)
  iapply (part31 I K c) $$ HC F7 F8 F9 F10 F11 HO
  iintro S7 Y7 S8 Y8 S9 Y9 S10 Y10 S11 Y11 HO
  simp only [Prog.lift, Prog.bind_op, Prog.bind_ret, Prog.pure_eq_ret]
  iapply (wp_gone I K 12 c rfl) $$ HC F12 HO
  iintro S12 Y12 HO
  iapply (wp_gone I K 13 c rfl) $$ HC F13 HO
  iintro S13 Y13 HO
  iapply wp_done
  iapply (wp_gone I K 14 c rfl) $$ HC F14 HO
  iintro S14 Y14 HO
  iapply (wp_gone I K 15 c rfl) $$ HC F15 HO
  iintro S15 Y15 HO
  iapply wp_done
  ihave P00 := (any_of (F := F) c (plM 0 0) (ps I 0 0 c)) $$ [S0]
  · iexact S0
  ihave P01 := (any_of (F := F) c (plM 0 1) (ps I 0 1 c)) $$ [S1]
  · iexact S1
  ihave P10 := (any_of (F := F) c (plM 1 0) (ps I 1 0 c)) $$ [S2]
  · iexact S2
  ihave P21 := (any_of (F := F) c (plM 2 1) (ps I 2 1 c)) $$ [S3]
  · iexact S3
  ihave Hsnp := (any_of (F := F) c snpM (snp I c)) $$ [S4]
  · iexact S4
  ihave Hsnq := (any_of (F := F) c snqM (snq I c)) $$ [S5]
  · iexact S5
  ihave Hrp := (back_three (F := F) c rpM (redp I c)) $$ [Hrp S10 S6 S7]
  · isplitl [Hrp]; · iexact Hrp
    isplitl [S10]; · iexact S10
    isplitl [S6]; · iexact S6
    iexact S7
  ihave Hrq := (back_three (F := F) c rqM (redq I c)) $$ [Hrq S11 S8 S9]
  · isplitl [Hrq]; · iexact Hrq
    isplitl [S11]; · iexact S11
    isplitl [S8]; · iexact S8
    iexact S9
  ihave B := (back_half (F := F) c s3pM (redp I (p2 c))) $$ [B S12 S13]
  · isplitl [B]; · iexact B
    isplitl [S12]; · iexact S12
    iexact S13
  ihave A := (back_half (F := F) c s3qM (redq I (p1 c))) $$ [A S14 S15]
  · isplitl [A]; · iexact A
    isplitl [S14]; · iexact S14
    iexact S15
  ihave D0 := (any_of_planes (F := F) c s1pM) $$ [D0 D2]
  · isplitl [D0]; · iexact D0
    iexact D2
  ihave D1 := (any_of_planes (F := F) c s1qM) $$ [D1 D3]
  · isplitl [D1]; · iexact D1
    iexact D3
  ihave C0 := (any_of_planes (F := F) c s4pM) $$ [C0 C1]
  · isplitl [C0]; · iexact C0
    iexact C1
  ihave E0 := (any_of_planes (F := F) c s4qM) $$ [E0 E1]
  · isplitl [E0]; · iexact E0
    iexact E1
  ihave Hpb := (any_of_pb (F := F) c) $$ [P00 P01 P10 P11 P20 P21 P30 P31]
  · isplitl [P00]; · iexact P00
    isplitl [P01]; · iexact P01
    isplitl [P10]; · iexact P10
    isplitl [P11]; · iexact P11
    isplitl [P20]; · iexact P20
    isplitl [P21]; · iexact P21
    isplitl [P30]; · iexact P30
    iexact P31
  ihave Ho := (out_of c I) $$ [O0 O1 O2 O3 O4 O5 O6 O7]
  · isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  iapply Hk
  unfold bodyPost ins
  rw [list_copies (fun k => semVal (sendCell k c) 0), list_copies (fun k => semVal (recvCell k c) 0)]
  isplitl [Hzb]; · iexact Hzb
  isplitl [Y0 Y1 Y2 Y3 Y4 Y5 Y6 Y7 Y8 Y9 Y10 Y11 Y12 Y13 Y14 Y15]
  · iframe
  isplitl [Z0 Z1 Z2 Z3 Z4 Z5 Z6 Z7 Z8 Z9 Z10 Z11 Z12 Z13 Z14 Z15]
  · iframe
  isplitl [Hx Hwq Hwo Hwk Hwv]
  · iframe
  isplitl [Ho]; · iexact Ho
  isplitr [HO]
  · isplitl [Hpb]; · iexact Hpb
    isplitl [D0]; · iexact D0
    isplitl [D1]; · iexact D1
    isplitl [Hsnp]; · iexact Hsnp
    isplitl [D4]; · iexact D4
    isplitl [Hsnq]; · iexact Hsnq
    isplitl [D5]; · iexact D5
    isplitl [Hrp]; · iexact Hrp
    isplitl [Hrq]; · iexact Hrq
    isplitl [B]; · iexact B
    isplitl [A]; · iexact A
    isplitl [C0]; · iexact C0
    iexact E0
  iexact HO

end Cert.KernelIdeal.Run
-- ==== Proof.Region.lean ====
/-
  The kernel as the pipeline runs it: its one grid point, the operands fetched whole, the result written back whole.
-/
module

public import proofs.«01_k».proof.Proof.Body4
public import Idealize.ShloMosaic.Lib.Pipeline.RegionTalk
public import Idealize.ShloMosaic.Lib.Pipeline.Regions
public import Idealize.ShloMosaic.Lib.Pipeline.ValueKit.Geometry
public import Idealize.ShloMosaic.Lib.StableHlo

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the operands hold -/

/-- The operands of every device as the statements before the kernel leave them. -/
def opnds : Inputs F where
  x c := V1 m c main_arg0
  wq c := V1 m c main_arg1
  wo c := V1 m c main_arg2
  wk c := V1 m c main_v9
  wv c := V1 m c main_v13

/-- The kernel leaves the finished result on every device. -/
def outs : Outs (F := F) := fun _ r c => Function.update (V1 m c) (Proc.devRef .tc main_v14) (outV (opnds m)) (Proc.devRef .tc r)

theorem outs_v14 (c : Dev nD) : outs m 2 main_v14 c = outV (opnds m) := Function.update_self ..

/-! ## The proof data -/

/-- Before the point: the protocol's state, and the buffers the body does not give away. -/
def Φ₀ (c : Dev nD) : sProp 𝕄 :=
  iprop(∃ K, Ctx (opnds m) K ∗ word (nx 1 c) c ∗ word (nx 2 c) c ∗ word (nx 3 c) c ∗ cred (tallyAt (barCell c) () 3) ∗ atPos ER (barCell c) 0 ∅ 0
    ∗ (bigSep Finset.univ fun k => sRdy k c) ∗ (bigSep Finset.univ fun k => rExp k c)
    ∗ any (F := F) c pbM ∗ any (F := F) c snpM ∗ any (F := F) c snqM ∗ any (F := F) c rpM ∗ any (F := F) c rqM ∗ ∃ r, prngReg c r)

/-- The scratch buffers, at any contents. -/
def scr (c : Dev nD) : sProp 𝕄 :=
  iprop(any (F := F) c pbM ∗ any (F := F) c s1pM ∗ any (F := F) c s1qM ∗ any (F := F) c snpM ∗ any (F := F) c s2pM ∗ any (F := F) c snqM ∗ any (F := F) c s2qM
      ∗ any (F := F) c rpM ∗ any (F := F) c rqM ∗ any (F := F) c s3pM ∗ any (F := F) c s3qM ∗ any (F := F) c s4pM ∗ any (F := F) c s4qM)

/-- After it: every counter at zero and the scratch buffers back. -/
def Φ₁ (c : Dev nD) : sProp 𝕄 :=
  iprop(semVal (barCell c) 0 ∗ (bigSep Finset.univ fun k => semVal (sendCell k c) 0) ∗ (bigSep Finset.univ fun k => semVal (recvCell k c) 0)
    ∗ scr (F := F) c ∗ ∃ r, prngReg c r)

def pdats (_ : Fin 1) (c : Dev nD) : Pipeline.Dat τ (Elt F) Unit ℕ UU ℕ cfg0 c where
  A w := V1 m c (Proc.devRef .tc (Pipeline.arrRef spec0 w))
  after w _ := match w with
    | ⟨0, _⟩ => (opnds m).x c
    | ⟨1, _⟩ => (opnds m).wq c
    | ⟨2, _⟩ => (opnds m).wo c
    | ⟨3, _⟩ => (opnds m).wk c
    | ⟨4, _⟩ => (opnds m).wv c
    | ⟨5, _⟩ => outV (opnds m)
    | ⟨_ + 6, h⟩ => absurd h (Nat.not_lt.2 (Nat.le_add_left _ _))
  Φ t := if t.val = 0 then Φ₀ m c else Φ₁ (F := F) c
  q _ := fullShare
  owed t := if t.val = 0 then O₀ c else 0

theorem share_eq (c : Dev nD) (w : Fin cfg0.W) : (pdats m 0 c).share w = fullShare := by unfold Pipeline.Dat.share; split <;> rfl

theorem index_zero : ∀ (w : Fin 6) (a : Fin (cfg0.win w).shape.rank), (cfg0.win w).index t0_0 a = 0 := by decide +kernel

/-- At the one grid point a window's block sits at the array's own corner. -/
theorem emb_val (w : Fin 6) (j : ((cfg0.win w).xblock (cfg0.grid.coords t0_0)).Idx) (a : Fin (cfg0.win w).shape.rank) :
    (((cfg0.win w).rect t0_0).emb j a : ℕ) = j a :=
  Pipeline.Window.rect_emb_val_of_index_zero _ _ _ (index_zero w a) _

theorem before_0 (c : Dev nD) (d) : (pdats m 0 c).before 0 t0_0 d = (opnds m).x c := by
  rw [Pipeline.Dat.before_fetched _ _ _ (fetch0_0 _)]
  funext j
  exact congrArg (V1 m c main_arg0) (funext fun a => Fin.ext (emb_val 0 j a))
theorem before_1 (c : Dev nD) (d) : (pdats m 0 c).before 1 t0_0 d = (opnds m).wq c := by
  rw [Pipeline.Dat.before_fetched _ _ _ (fetch0_1 _)]
  funext j
  exact congrArg (V1 m c main_arg1) (funext fun a => Fin.ext (emb_val 1 j a))
theorem before_2 (c : Dev nD) (d) : (pdats m 0 c).before 2 t0_0 d = (opnds m).wo c := by
  rw [Pipeline.Dat.before_fetched _ _ _ (fetch0_2 _)]
  funext j
  exact congrArg (V1 m c main_arg2) (funext fun a => Fin.ext (emb_val 2 j a))
theorem before_3 (c : Dev nD) (d) : (pdats m 0 c).before 3 t0_0 d = (opnds m).wk c := by
  rw [Pipeline.Dat.before_fetched _ _ _ (fetch0_3 _)]
  funext j
  exact congrArg (V1 m c main_v9) (funext fun a => Fin.ext (emb_val 3 j a))
theorem before_4 (c : Dev nD) (d) : (pdats m 0 c).before 4 t0_0 d = (opnds m).wv c := by
  rw [Pipeline.Dat.before_fetched _ _ _ (fetch0_4 _)]
  funext j
  exact congrArg (V1 m c main_v13) (funext fun a => Fin.ext (emb_val 4 j a))

/-- The one write-back leaves the whole result. -/
theorem result (c : Dev nD) : (pdats m 0 c).arrAt 5 cfg0.N = outV (opnds m) := by
  refine (pdats m 0 c).arrAt_eq_of_after_last 5 t0_0 (by decide +kernel) _ (fun j => ?_)
  rfl

/-! ## The body at the point -/

theorem bodyAt_eq : bodyAt0 (F := F) t0_0 = onBufs (cc0_body (F := F)) := rfl

theorem body_obligation [∀ e, Nonempty (Elt F e)] (c : Dev nD) :
    Pipeline.BodyObligation (pdats m 0 c) (defs₀ (F := F)) 𝒱₀ () Set.univ := fun t => by
  rw [fin_N0 t, bigSep_W0, bigSep_W0]
  simp only [before_0, before_1, before_2, before_3, before_4]
  show iprop(Φ₀ m c ∗ (pdats m 0 c).owesAt () (Fin.castSucc t0_0)
      ∗ (∃ d : Vec F S4x256x1024 .f32, owns (c : Thread nD τ) xM fullShare ((opnds m).x c)) ∗ (∃ d : Vec F S1024x1024 .f32, owns (c : Thread nD τ) wqM fullShare ((opnds m).wq c))
      ∗ (∃ d : Vec F S1024x1024 .f32, owns (c : Thread nD τ) woM fullShare ((opnds m).wo c)) ∗ (∃ d : Vec F S1024x256 .f32, owns (c : Thread nD τ) wkM fullShare ((opnds m).wk c))
      ∗ (∃ d : Vec F S1024x256 .f32, owns (c : Thread nD τ) wvM fullShare ((opnds m).wv c)) ∗ (∃ d : Vec F S1024x1024 .f32, owns (c : Thread nD τ) oM fullShare ((pdats m 0 c).before 5 t0_0 d)))
    ⊢ WP c (onBufs (cc0_body (F := F))) fun _ => iprop(Φ₁ (F := F) c ∗ (pdats m 0 c).owesAt () (Fin.succ t0_0)
      ∗ owns (c : Thread nD τ) xM fullShare ((opnds m).x c) ∗ owns (c : Thread nD τ) wqM fullShare ((opnds m).wq c)
      ∗ owns (c : Thread nD τ) woM fullShare ((opnds m).wo c) ∗ owns (c : Thread nD τ) wkM fullShare ((opnds m).wk c)
      ∗ owns (c : Thread nD τ) wvM fullShare ((opnds m).wv c) ∗ owns (c : Thread nD τ) oM fullShare (outV (opnds m)))
  unfold Φ₀ Φ₁ Pipeline.Dat.owesAt Pipeline.owesWithin
  rw [show (pdats m 0 c).owed (Fin.castSucc t0_0) = O₀ c from rfl, show (pdats m 0 c).owed (Fin.succ t0_0) = 0 from rfl]
  iintro ⟨⟨%K, #HC, Hw1, Hw2, Hw3, Hcr, Hat, HS, HR, Hpb, Hsnp, Hsnq, Hrp, Hrq, Hp⟩, ⟨%W, -, HO⟩, ⟨%_, Hx⟩, ⟨%_, Hwq⟩, ⟨%_, Hwo⟩, ⟨%_, Hwk⟩, ⟨%_, Hwv⟩, ⟨%_, Ho⟩⟩
  ihave HO := (show (owes (c : Thread nD τ) (O₀ c) W : sProp 𝕄) ⊢ oweX c (O₀ c) from by unfold oweX; iintro H; iexists W; iexact H) $$ HO
  ihave Ho := (any_of (F := F) c oM _) $$ [Ho]
  · iexact Ho
  iapply (body_run (opnds m) K c) $$ HC [Hw1 Hw2 Hw3 Hcr Hat HS HR Hpb Hsnp Hsnq Hrp Hrq HO Hx Hwq Hwo Hwk Hwv Ho]
  · unfold bodyPre ins
    iframe
  unfold bodyPost ins scr oweX
  iintro ⟨Hb, Hs, Hr, ⟨Hx, Hwq, Hwo, Hwk, Hwv⟩, Ho, Hscr, ⟨%W', HO⟩⟩
  isplitl [Hb Hs Hr Hscr Hp]
  · isplitl [Hb]; · iexact Hb
    isplitl [Hs]; · iexact Hs
    isplitl [Hr]; · iexact Hr
    isplitl [Hscr]; · iexact Hscr
    iexact Hp
  isplitl [HO]
  · iexists W'
    isplitr; · ipureintro; exact fun _ _ => Or.inl trivial
    iexact HO
  isplitl [Hx]; · iexact Hx
  isplitl [Hwq]; · iexact Hwq
  isplitl [Hwo]; · iexact Hwo
  isplitl [Hwk]; · iexact Hwk
  isplitl [Hwv]; · iexact Hwv
  iexact Ho

end Cert.KernelIdeal.Run
-- ==== Proof.Entry.lean ====
/-
  Entering and leaving the kernel: the send and receive cells are opened, the places to land in and the words that carry them made.
-/
module

public import proofs.«01_k».proof.Proof.Region

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The copies' semaphores: the send ones, then the receive ones. -/
def osem : Fin 16 ⊕ Fin 16 → SemLoc sig
  | .inl k => .dma (sendS k)
  | .inr k => .dma (recvS k)

theorem osem_facts : Pipeline.OwnSemFacts spec0 osem := by decide +kernel

theorem ownSems (c : Dev nD) : (Pipeline.ownSems0 osem c : sProp 𝕄)
    = iprop((bigSep Finset.univ fun k => semVal (sendCell k c) 0) ∗ (bigSep Finset.univ fun k => semVal (recvCell k c) 0)) :=
  bigSep_univ_sum _

/-! ## What a device holds from the launch on -/

/-- Every cell's invariant. -/
def Inv (I : Inputs F) (K : GSem nD τ sig → ℕ) : sProp 𝕄 :=
  iprop((bigSep Finset.univ fun c => cellInv ER (Rd I) (K (barCell c)) (barCell c))
    ∗ (bigSep Finset.univ fun p : Fin 16 × Dev nD => cellInv ER (Rd I) (K (sendCell p.1 p.2)) (sendCell p.1 p.2))
    ∗ (bigSep Finset.univ fun p : Fin 16 × Dev nD => cellInv ER (Rd I) (K (recvCell p.1 p.2)) (recvCell p.1 p.2)))

instance (I : Inputs F) (K : GSem nD τ sig → ℕ) : BI.Persistent (Inv I K) := by unfold Inv; infer_instance

/-- A device's tokens: one for each word it says, two for each copy it starts. -/
def toks (c : Dev nD) : sProp 𝕄 :=
  iprop((dutyTok ER (barCell (nx 1 c)) 0 c ∗ dutyTok ER (barCell (nx 2 c)) 0 c ∗ dutyTok ER (barCell (nx 3 c)) 0 c)
    ∗ (bigSep Finset.univ fun k => dutyTok ER (sendCell k c) 0 (0 : Dev nD)) ∗ (bigSep Finset.univ fun k => dutyTok ER (recvCell k (tgt k c)) 0 (0 : Dev nD)))

/-- What it may wait for. -/
def creds (c : Dev nD) : sProp 𝕄 :=
  iprop(cred (tallyAt (barCell c) () 3) ∗ bigSep Finset.univ fun k => cred (tallyAt (recvCell k c) () (N k)))

def Tk (c : Dev nD) : sProp 𝕄 :=
  iprop(∃ K, Inv (opnds m) K ∗ (bigSep Finset.univ fun b => reached ER (barCell b) 0) ∗ atPos ER (barCell c) 0 ∅ 0
    ∗ (bigSep Finset.univ fun k => openTok ER (sendCell k c)) ∗ (bigSep Finset.univ fun k => openTok ER (recvCell k c)) ∗ toks c ∗ creds c)

def Xk (c : Dev nD) : sProp 𝕄 :=
  iprop(∃ K, Ctx (opnds m) K ∗ (bigSep Finset.univ fun b => reached ER (barCell b) 0) ∗ atPos ER (barCell c) 0 ∅ 0
    ∗ (bigSep Finset.univ fun k => iprop(atPos ER (sendCell k c) 0 ∅ 0 ∗ reached ER (sendCell k c) 0))
    ∗ (bigSep Finset.univ fun k => iprop(atPos ER (recvCell k c) 0 ∅ 0 ∗ reached ER (recvCell k c) 0)) ∗ toks c ∗ creds c)

/-- Opening a device's cells of one family. -/
theorem open_cells (I : Inputs F) (K : GSem nD τ sig → ℕ) (g : Fin 16 → Dev nD → GSem nD τ sig) (c : Dev nD) :
    (bigSep Finset.univ fun p : Fin 16 × Dev nD => cellInv ER (Rd I) (K (g p.1 p.2)) (g p.1 p.2))
      ⊢ (iprop((bigSep Finset.univ fun k => openTok ER (g k c)) -∗ (bigSep Finset.univ fun k => semVal (g k c) 0)
        -∗ |={Set.univ}=> bigSep Finset.univ fun k => iprop(atPos ER (g k c) 0 ∅ 0 ∗ reached ER (g k c) 0)) : sProp 𝕄) := by
  iintro #H Ho Hs
  ihave Hos := (Entails.of_eq (bigSep_sep' Finset.univ (fun k => openTok ER (g k c)) (fun k => (semVal (g k c) 0 : sProp 𝕄))).symm) $$ [Ho Hs]
  · isplitl [Ho] <;> iassumption
  iapply (bigSep_fupd (Finset.univ : Finset (Fin 16)) (fun k => (iprop(atPos ER (g k c) 0 ∅ 0 ∗ reached ER (g k c) 0) : sProp 𝕄)))
  iapply (bigSep_with_persistent (S := (Finset.univ : Finset (Fin 16)))
    (R := (bigSep Finset.univ fun p : Fin 16 × Dev nD => cellInv ER (Rd I) (K (g p.1 p.2)) (g p.1 p.2)))
    (Φ := fun k => (iprop(openTok ER (g k c) ∗ semVal (g k c) 0) : sProp 𝕄)) (fun k _ => by
      iintro ⟨#H, Ho, Hs⟩
      iapply (Rounds.cell_open ER (Rd I) (g := g k c) (Set.mem_univ (K (g k c))))
      isplitr
      · have he : (bigSep Finset.univ fun p : Fin 16 × Dev nD => cellInv ER (Rd I) (K (g p.1 p.2)) (g p.1 p.2)) ⊢ (cellInv ER (Rd I) (K (g k c)) (g k c) : sProp 𝕄) :=
          bigSep_elim (Finset.mem_univ ((k, c) : Fin 16 × Dev nD))
        iapply he
        iexact H
      isplitl [Ho] <;> iassumption))
  isplitr; · iexact H
  iexact Hos

theorem hopen (c : Dev nD) : iprop(Tk m c ∗ Pipeline.ownSems0 osem c ∗ levAts L lv) ⊢ |={Set.univ}=> Xk m c := by
  rw [ownSems]
  unfold Tk Xk Inv
  iintro ⟨⟨%K, ⟨#Hb, #Hs, #Hr⟩, Hre, Hat, Hos, Hor, Ht, Hc⟩, ⟨Hss, Hsr⟩, #Hl⟩
  imod (open_cells (opnds m) K sendCell c) $$ Hs Hos Hss with HS
  imod (open_cells (opnds m) K recvCell c) $$ Hr Hor Hsr with HR
  imodintro
  iexists K
  unfold Ctx
  isplitr
  · isplitr; · iexact Hb
    isplitr; · iexact Hs
    isplitr; · iexact Hr
    iexact Hl
  iframe

/-! ## Into the kernel's invariant and out of it -/

/-- The buffers no window stages are the scratch ones. -/
theorem rest_scr (c : Dev nD) : (Pipeline.scopedRest spec0 c : sProp 𝕄) = scr (F := F) c := by
  rw [scopedRest0_eq]
  unfold scr any
  simp only [owns_whole]
  rfl

theorem hin (c : Dev nD) : iprop(Pipeline.scopedRest spec0 c ∗ (∃ r, prngReg c r) ∗ StableHlo.held (c.tc : Thread nD τ) ∅ (V1 m c) ∗ Xk m c) ⊢ Φ₀ m c := by
  rw [rest_scr]
  unfold scr Xk Φ₀ toks creds
  rw [bigSep_sep', bigSep_sep']
  iintro ⟨⟨Hpb, H1p, H1q, Hnp, H2p, Hnq, H2q, Hrp, Hrq, H3p, H3q, H4p, H4q⟩, Hp, -, ⟨%K, #HC, #Hre, Hat, HS, HR, ⟨⟨Hw1, Hw2, Hw3⟩, Hts, Htr⟩, Hcb, Hcr⟩⟩
  icases HS with ⟨HSa, HSr⟩
  icases HR with ⟨HRa, #HRr⟩
  ihave Hd := (places (F := F) c) $$ [H1p H1q H2p H2q H3p H3q H4p H4q]
  · iframe
  ihave Hg := (show iprop((bigSep Finset.univ fun k => any (F := F) c (dst k)) ∗ (bigSep Finset.univ fun k => reached ER (recvCell k c) 0))
      ⊢ (bigSep (Finset.univ.erase c) fun b => barPay b c : sProp 𝕄) from by
    rw [← bigSep_sep', ← gives_split]; exact Entails.refl _) $$ [Hd]
  · isplitl [Hd]; · iexact Hd
    iexact HRr
  ihave Hg := (Entails.of_eq (list_others c (fun b => barPay (F := F) b c))) $$ Hg
  icases Hg with ⟨Hg1, Hg2, Hg3⟩
  have hre (b : Dev nD) : (bigSep Finset.univ fun b => reached ER (barCell b) 0 : sProp 𝕄) ⊢ reached ER (barCell b) 0 := bigSep_elim (Finset.mem_univ b)
  iexists K
  isplitr; · iexact HC
  unfold word
  isplitl [Hw1 Hg1]
  · isplitl [Hw1]; · iexact Hw1
    isplitl [Hg1]; · iexact Hg1
    iapply (hre _); iexact Hre
  isplitl [Hw2 Hg2]
  · isplitl [Hw2]; · iexact Hw2
    isplitl [Hg2]; · iexact Hg2
    iapply (hre _); iexact Hre
  isplitl [Hw3 Hg3]
  · isplitl [Hw3]; · iexact Hw3
    isplitl [Hg3]; · iexact Hg3
    iapply (hre _); iexact Hre
  isplitl [Hcb]; · iexact Hcb
  isplitl [Hat]; · iexact Hat
  isplitl [Hts HSa HSr Htr]
  · unfold sRdy
    rw [bigSep_sep', bigSep_sep', bigSep_sep']
    iframe
  isplitl [Hcr HRa]
  · unfold rExp
    rw [bigSep_sep']
    iframe
  iframe

theorem hout (c : Dev nD) : Φ₁ (F := F) c
    ⊢ iprop(Pipeline.scopedRest spec0 c ∗ (∃ r, prngReg c r) ∗ StableHlo.held (c.tc : Thread nD τ) ∅ (V2 m (outs m) c) ∗ Pipeline.ownSems0 osem c
      ∗ semVal (barCell c) 0) := by
  rw [rest_scr, ownSems]
  unfold Φ₁ StableHlo.held
  rw [bigSep_empty]
  iintro ⟨Hb, Hs, Hr, Hscr, Hp⟩
  isplitl [Hscr]; · iexact Hscr
  isplitl [Hp]; · iexact Hp
  isplitr; · iempintro
  isplitl [Hs Hr]
  · isplitl [Hs]; · iexact Hs
    iexact Hr
  iexact Hb

/-! ## The segment -/

theorem stage_level : ∀ (w : Fin 6) (s : Fin (cfg0.win w).nbuf), lvOf (.dma ((cfg0.win w).sem s)) = 0 := by decide +kernel

theorem cut : Pipeline.LevelCutOwed (pcfgs (F := F)) adm (pdats m) () L lv 0 (fun _ => 0) where
  hι c w s := by rw [L_tc]; exact Finset.mem_singleton_self _
  hιb c w s := le_of_eq (stage_level w s)
  hD c t g i h := by
    have h' : 0 < O₀ c g i := by
      dsimp only [pdats] at h
      split at h
      · exact h
      · exact absurd h (Nat.lt_irrefl 0)
    rcases O₀_pos h' with ⟨k, -, rfl⟩ | ⟨d, rfl⟩
    · rw [recvCell, L_tc, ← recvCell, lv_recv]
      exact ⟨Finset.mem_singleton_self _, by clear h h'; revert k; decide⟩
    · rw [barCell, L_tc]
      exact ⟨Finset.mem_singleton_self _, Nat.one_pos⟩

theorem arr_in (c : Dev nD) : ∀ w : Fin 6, (pdats m 0 c).arrAt w cfg0.N = V2 m (outs m) c (Proc.devRef .tc (Pipeline.arrRef spec0 w))
  | ⟨0, _⟩ => (Pipeline.Dat.arrAt_in _ 0 rfl _).trans (V2_of m (outs m) c main_arg0 (by decide)).symm
  | ⟨1, _⟩ => (Pipeline.Dat.arrAt_in _ 1 rfl _).trans (V2_of m (outs m) c main_arg1 (by decide)).symm
  | ⟨2, _⟩ => (Pipeline.Dat.arrAt_in _ 2 rfl _).trans (V2_of m (outs m) c main_arg2 (by decide)).symm
  | ⟨3, _⟩ => (Pipeline.Dat.arrAt_in _ 3 rfl _).trans (V2_of m (outs m) c main_v9 (by decide)).symm
  | ⟨4, _⟩ => (Pipeline.Dat.arrAt_in _ 4 rfl _).trans (V2_of m (outs m) c main_v13 (by decide)).symm
  | ⟨5, _⟩ => (result m c).trans ((show V2 m (outs m) c (Proc.devRef .tc main_v14) = outs m 2 main_v14 c from Function.update_self ..).trans (outs_v14 m c)).symm
  | ⟨_ + 6, h⟩ => absurd h (Nat.not_lt.2 (Nat.le_add_left _ _))

/-- The buffers the kernel has no window on. -/
abbrev others : Finset (DevRef τ sig) := Pipeline.ucRefs τ sig \ Pipeline.arrRefs spec0

theorem others_kept (c : Dev nD) (b : DevRef τ sig) (hb : b ∈ others \ (∅ : Finset (DevRef τ sig))) : V2 m (outs m) c b = V1 m c b := by
  refine Function.update_of_ne (fun h => ?_) _ _
  subst h
  exact (Finset.mem_sdiff.mp (Finset.mem_sdiff.mp hb).1).2 (Finset.mem_map.mpr ⟨main_v14, Finset.mem_image.mpr ⟨5, Finset.mem_univ _, rfl⟩, rfl⟩)

set_option backward.isDefEq.respectTransparency.types false in
def reg0 [∀ e, Nonempty (Elt F e)] : Pipeline.RegionSeg (pcfgs (F := F)) adm (pdats m) () defs₀ 𝒱₀ L lv 0 :=
  Pipeline.RegionSeg.ofTalk (pcfgs (F := F)) adm (pdats m) () defs₀ 𝒱₀ L lv 0 osem osem_facts ∅ others (Finset.empty_subset _)
    launch0.toP rfl (fun c => (body_obligation m c).loose) (fun _ => 0) O₀ (fun c => (zero_add (O₀ c)).symm) (fun _ => rfl) (fun _ => rfl)
    (share_eq m) (V1 m) (V2 m (outs m)) (others_kept m) (Tk m) (fun c => semVal (barCell c) 0) (Xk m) (fun c => semVal (barCell c) 0)
    (hopen m) (hin m) (hout m) (fun c => by iintro H; imodintro; iexact H) (fun _ => 0) (cut m) (fun _ => iprop(emp))
    (fun _ _ => rfl) (arr_in m)

end Cert.KernelIdeal.Run
-- ==== Proof.Launch.lean ====
/-
  The launch and the whole run: the cells funded, what each device owes and may wait for, and the program from any memory to its end.
-/
module

public import proofs.«01_k».proof.Proof.Entry
public import Idealize.ShloMosaic.Lib.Quiescent
public import Idealize.ShloMosaic.Lib.Pipeline.Frame

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem barCell_inj {c d : Dev nD} (h : barCell c = barCell d) : c = d := congrArg (fun g : GSem nD τ sig => g.1.1) h
theorem recvCell_inj {k j : Fin 16} {c d : Dev nD} (h : recvCell k c = recvCell j d) : k = j ∧ c = d :=
  ⟨recvS_inj (SemLoc.dma.inj (congrArg (fun g : GSem nD τ sig => g.2) h)), congrArg (fun g : GSem nD τ sig => g.1.1) h⟩

theorem reg_ne_dma (a : Sem sig) (s : DmaSem sig) : (SemLoc.reg a : SemLoc sig) ≠ .dma s := nofun

/-- The ready cells. -/
def barCells : Finset (GSem nD τ sig) := Finset.univ.map ⟨barCell, fun _ _ h => barCell_inj h⟩

def dmaCell (p : Dev nD × (Fin 16 ⊕ Fin 16)) : GSem nD τ sig := ((p.1 : Thread nD τ), osem p.2)

theorem dmaCell_inj : Function.Injective dmaCell := fun _ _ h =>
  Prod.ext (congrArg (fun g : GSem nD τ sig => g.1.1) h) (osem_facts.inj (congrArg (fun g : GSem nD τ sig => g.2) h))

/-- The copies' cells. -/
def dmaCells : Finset (GSem nD τ sig) := Finset.univ.map ⟨dmaCell, dmaCell_inj⟩

theorem cells_apart : Disjoint barCells dmaCells := by
  rw [Finset.disjoint_left]
  rintro g hb hd
  obtain ⟨c, -, rfl⟩ := Finset.mem_map.mp hb
  obtain ⟨⟨d, k | k⟩, -, h⟩ := Finset.mem_map.mp hd <;> exact reg_ne_dma _ _ (congrArg (fun g : GSem nD τ sig => g.2) h).symm

/-- The token for each thing a device does: three words, and both ends of sixteen copies. -/
def tokOf : Dev nD × (Fin 3 ⊕ (Fin 16 ⊕ Fin 16)) → GSem nD τ sig × ℕ × Dev nD
  | (c, .inl j) => (barCell (nx (j.val + 1) c), 0, c)
  | (c, .inr (.inl k)) => (sendCell k c, 0, 0)
  | (c, .inr (.inr k)) => (recvCell k (tgt k c), 0, 0)

theorem nx_inj : ∀ (c : Dev nD) (i j : Fin 3), nx (i.val + 1) c = nx (j.val + 1) c → i = j := by decide

theorem tokOf_inj : Function.Injective tokOf := by
  have hsm {a b : GSem nD τ sig × ℕ × Dev nD} (h : a = b) : a.1.2 = b.1.2 := congrArg (fun x => x.1.2) h
  rintro ⟨c, i | i | i⟩ ⟨d, j | j | j⟩ h
  · obtain rfl : c = d := congrArg (fun x : GSem nD τ sig × ℕ × Dev nD => x.2.2) h
    obtain rfl := nx_inj c i j (barCell_inj (congrArg Prod.fst h))
    rfl
  · exact absurd (hsm h) (reg_ne_dma _ _)
  · exact absurd (hsm h) (reg_ne_dma _ _)
  · exact absurd (hsm h).symm (reg_ne_dma _ _)
  · obtain rfl : c = d := congrArg (fun x : GSem nD τ sig × ℕ × Dev nD => x.1.1.1) h
    obtain rfl := sendS_inj (SemLoc.dma.inj (hsm h))
    rfl
  · exact absurd (SemLoc.dma.inj (hsm h)) (sendS_ne_recvS _ _)
  · exact absurd (hsm h).symm (reg_ne_dma _ _)
  · exact absurd (SemLoc.dma.inj (hsm h)).symm (sendS_ne_recvS _ _)
  · obtain ⟨rfl, e⟩ := recvCell_inj (congrArg Prod.fst h)
    obtain rfl : c = d := by rw [← tgt_tgt i c, e, tgt_tgt]
    rfl

def tokens : Finset (GSem nD τ sig × ℕ × Dev nD) := Finset.univ.map ⟨tokOf, tokOf_inj⟩

theorem tokens_eq : (bigSep tokens fun x => dutyTok ER x.1 x.2.1 x.2.2 : sProp 𝕄) = bigSep Finset.univ fun c => toks c := by
  unfold tokens
  rw [bigSep_map, bigSep_univ_prod]
  refine bigSep_congr fun c _ => ?_
  rw [bigSep_univ_sum, bigSep_univ_sum, bigSep_univ_eq_bigSepL [0, 1, 2] (by decide) (by decide)]
  simp only [bigSepL]
  rfl

theorem opens_eq : (bigSep dmaCells fun g => openTok ER g : sProp 𝕄) = bigSep Finset.univ fun c =>
    iprop((bigSep Finset.univ fun k => openTok ER (sendCell k c)) ∗ (bigSep Finset.univ fun k => openTok ER (recvCell k c))) := by
  unfold dmaCells
  rw [bigSep_map, bigSep_univ_prod]
  exact bigSep_congr fun c _ => bigSep_univ_sum _

theorem both {A : Type} {S : Finset A} {Φ Ψ : A → sProp (MT nD τ sig Unit (Elt F) ℕ UU ℕ)} :
    iprop(bigSep S Φ ∗ bigSep S Ψ) ⊢ bigSep S fun i => iprop(Φ i ∗ Ψ i) := Entails.of_eq (bigSep_sep' S Φ Ψ).symm

/-- A fact of every cell holds along any family of them. -/
theorem along {A : Type} [Fintype A] [DecidableEq A] {S : Finset (GSem nD τ sig)} (Φ : GSem nD τ sig → sProp (MT nD τ sig Unit (Elt F) ℕ UU ℕ)) [∀ g, BI.Persistent (Φ g)]
    (f : A → GSem nD τ sig) (hf : ∀ a, f a ∈ S) : bigSep S Φ ⊢ bigSep Finset.univ fun a => Φ (f a) :=
  (bigSep_of_persistent (Finset.univ : Finset A) (bigSep S Φ)).trans (bigSep_mono fun a _ => bigSep_elim (hf a))

theorem bar_mem (c : Dev nD) : barCell c ∈ barCells := Finset.mem_map.mpr ⟨c, Finset.mem_univ _, rfl⟩
theorem send_mem (k : Fin 16) (c : Dev nD) : sendCell k c ∈ dmaCells := Finset.mem_map.mpr ⟨(c, .inl k), Finset.mem_univ _, rfl⟩
theorem recv_mem (k : Fin 16) (c : Dev nD) : recvCell k c ∈ dmaCells := Finset.mem_map.mpr ⟨(c, .inr k), Finset.mem_univ _, rfl⟩

theorem Inv_intro (I : Inputs F) (κ : GSem nD τ sig → ℕ) : (bigSep (barCells ∪ dmaCells) fun g => cellInv ER (Rd I) (κ g) g) ⊢ (Inv I κ : sProp 𝕄) := by
  unfold Inv
  have h1 := along (S := barCells ∪ dmaCells) (fun g => cellInv ER (Rd I) (κ g) g) barCell fun c => Finset.mem_union_left _ (bar_mem c)
  have h2 := along (S := barCells ∪ dmaCells) (fun g => cellInv ER (Rd I) (κ g) g) (fun p : Fin 16 × Dev nD => sendCell p.1 p.2) fun p => Finset.mem_union_right _ (send_mem p.1 p.2)
  have h3 := along (S := barCells ∪ dmaCells) (fun g => cellInv ER (Rd I) (κ g) g) (fun p : Fin 16 × Dev nD => recvCell p.1 p.2) fun p => Finset.mem_union_right _ (recv_mem p.1 p.2)
  iintro #H
  isplitr; · iapply h1; iexact H
  isplitr; · iapply h2; iexact H
  iapply h3; iexact H

/-! ## What the launch deals -/

theorem due_bar (d c : Dev nD) (l : List (Fin 16)) : due d l (barCell c) () = 0 := by
  by_contra h
  obtain ⟨k, -, e⟩ := due_pos (Nat.pos_of_ne_zero h)
  exact reg_ne_dma _ _ (congrArg (fun g : GSem nD τ sig => g.2) e)

theorem tally_bar (c b : Dev nD) : tallyAt (Ix := Unit) (barCell b) () 1 (barCell c) () = if b = c then 1 else 0 := by
  rw [tallyAt_apply]
  exact if_congr ⟨fun h => (barCell_inj h.1).symm, fun h => ⟨by rw [h], rfl⟩⟩ rfl rfl

theorem tally_recv_bar (k : Fin 16) (c b : Dev nD) : tallyAt (Ix := Unit) (barCell b) () 1 (recvCell k c) () = 0 := by
  rw [tallyAt_apply]
  exact if_neg fun h => reg_ne_dma _ _ (congrArg (fun g : GSem nD τ sig => g.2) h.1).symm

/-- Three words are owed to each device. -/
theorem owed_bar (c : Dev nD) : ∑ d, O₀ d (barCell c) () = 3 := by
  have h (d : Dev nD) : O₀ d (barCell c) () = (if nx 3 d = c then 1 else 0) + (if nx 2 d = c then 1 else 0) + (if nx 1 d = c then 1 else 0) := by
    unfold O₀
    rw [Pi.add_apply, Finsupp.add_apply, Pi.add_apply, Finsupp.add_apply, Pi.add_apply, Finsupp.add_apply, due_bar, tally_bar, tally_bar, tally_bar, Nat.zero_add]
  rw [Finset.sum_congr rfl fun d _ => h d]
  clear h
  revert c
  decide

theorem due_recv (d c : Dev nD) (k : Fin 16) : ∀ l : List (Fin 16), l.Nodup → due d l (recvCell k c) () = if k ∈ l ∧ d = tgt k c then N k else 0
  | [], _ => by rw [if_neg (fun h => absurd h.1 List.not_mem_nil)]; rfl
  | j :: l, hl => by
    rw [due, Pi.add_apply, Finsupp.add_apply, due_recv d c k l hl.of_cons, tallyAt_apply]
    by_cases hk : k = j
    · subst hk
      rw [if_neg (fun h => (List.nodup_cons.mp hl).1 h.1), Nat.zero_add]
      exact if_congr ⟨fun h => ⟨List.mem_cons_self, by rw [(recvCell_inj h.1).2, tgt_tgt]⟩, fun h => ⟨by rw [h.2, tgt_tgt], rfl⟩⟩ rfl rfl
    · rw [if_neg (c := recvCell k c = recvCell j (tgt j d) ∧ () = ()) (fun h => hk (recvCell_inj h.1).1), Nat.add_zero]
      exact if_congr (by rw [List.mem_cons, or_iff_right hk]) rfl rfl

theorem order_nodup : order.Nodup := by decide
theorem mem_order : ∀ k, k ∈ order := by decide

/-- Each copy's arrival is owed by the one neighbour that sends it. -/
theorem owed_recv (k : Fin 16) (c : Dev nD) : ∑ d, O₀ d (recvCell k c) () = N k := by
  have h (d : Dev nD) : O₀ d (recvCell k c) () = if d = tgt k c then N k else 0 := by
    unfold O₀
    rw [Pi.add_apply, Finsupp.add_apply, Pi.add_apply, Finsupp.add_apply, Pi.add_apply, Finsupp.add_apply, tally_recv_bar, tally_recv_bar, tally_recv_bar,
      due_recv d c k _ order_nodup]
    exact if_congr (and_iff_right (mem_order k)) rfl rfl
  rw [Finset.sum_congr rfl fun d _ => h d, Finset.sum_ite_eq' Finset.univ (tgt k c) fun _ => N k, if_pos (Finset.mem_univ _)]

theorem dealt (g : GSem nD τ sig) (n : ℕ) (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The receive semaphores. -/
def recvEmb : Fin 16 ↪ SemLoc sig := ⟨fun k => .dma (recvS k), fun _ _ h => recvS_inj (SemLoc.dma.inj h)⟩

theorem creds_intro (c : Dev nD) : (Pipeline.launchCred O₀ c : sProp 𝕄) ⊢ creds (F := F) c := by
  unfold Pipeline.launchCred creds
  rw [bigSep_univ_at _ (SemLoc.reg barS)]
  refine BIClass.sep_mono (Entails.of_eq (congrArg cred (dealt (barCell c) 3 (owed_bar c)))) ?_
  refine (bigSep_subset (t := Finset.univ.map recvEmb) fun sm h => ?_).trans ?_
  · obtain ⟨k, -, rfl⟩ := Finset.mem_map.mp h
    exact Finset.mem_erase.mpr ⟨(reg_ne_dma _ _).symm, Finset.mem_univ _⟩
  · rw [bigSep_map]
    exact bigSep_mono fun k _ => Entails.of_eq (congrArg cred (dealt (recvCell k c) (N k) (owed_recv k c)))

theorem unscoped_bar : ∀ sm : SemLoc sig, sm.isScoped .tc = false → sm = .reg barS := by decide

theorem unscoped_eq (c : Dev nD) : (unscopedSems0 c : sProp 𝕄) = semVal (barCell c) 0 := by
  unfold unscopedSems0
  rw [show (Finset.univ.filter fun sm : SemLoc sig => ¬ sm.isScoped .tc = true) = {.reg barS} from by decide, bigSep_singleton]

/-! ## The start -/

section Run
variable (m : (ℓ : Loc nD τ sig) → Buf (Elt F) ℓ) (ρ : Dev nD → PrngReg)

/-- A device's part beside its buffers, before the kernel and after it. -/
def E (i : Fin 2) (c : Dev nD) : sProp 𝕄 :=
  if i = 0 then iprop(Tk m c ∗ (∃ r, prngReg c r) ∗ ∃ W, owes (c : Thread nD τ) (O₀ c) W)
  else iprop(semVal (barCell c) 0 ∗ ∃ W, owes (c : Thread nD τ) (0 : CellTallies nD τ sig Unit) W)

theorem E_zero (c : Dev nD) : E m 0 c = iprop(Tk m c ∗ (∃ r, prngReg c r) ∗ ∃ W, owes (c : Thread nD τ) (O₀ c) W) := if_pos rfl
theorem E_one (c : Dev nD) : E m 1 c = iprop(semVal (barCell c) 0 ∗ ∃ W, owes (c : Thread nD τ) (0 : CellTallies nD τ sig Unit) W) := if_neg (by decide)

/-- The launch element: the pipeline's part and the protocol's. -/
def u₀ : UU :=
  (initOf (Pipeline.cells (Pipeline.pin (pcfgs (F := F)) adm) cellOf_inj) (Pipeline.launchToks (Pipeline.pin (pcfgs (F := F)) adm) cellOf_inj),
    launchOf barCells dmaCells tokens)

/-- The protocol's part, kept by device 0 until the cells are funded. -/
def G (c : Dev nD) : sProp 𝕄 := if c = 0 then BI.own (ER (launchOf barCells dmaCells tokens)) else iprop(emp)

theorem G_all : (bigSep Finset.univ G : sProp 𝕄) = BI.own (ER (launchOf barCells dmaCells tokens)) := by
  have hr : (bigSep (Finset.univ.erase (0 : Dev nD)) G : sProp 𝕄) = BI.emp := by
    rw [bigSep_congr (Φ := G (F := F)) (Ψ := fun _ => (BI.emp : sProp 𝕄)) fun c hc => if_neg (Finset.ne_of_mem_erase hc), bigSep_emp_const]
  rw [bigSep_univ_at _ (0 : Dev nD), hr]
  exact BI.equiv_iff.mp sep_emp

/-- What a device has at the launch that is no part of the protocol. -/
def base (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)

theorem base_intro (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
    ⊢ (iprop(base m c ∗ semVal (barCell c) 0 ∗ G c) : sProp 𝕄) := by
  rw [show unscopedBufs c (fun b => m ((c.tc : Thread nD τ).loc b)) = StableHlo.held (c : Thread nD τ) (Pipeline.ucRefs τ sig) (V0 m c) from
    Pipeline.unscopedBufs_held c (V0 m c), unscoped_eq]
  unfold base
  iintro ⟨Hh, Hs, HO, Hc, Hp, HG⟩
  ihave Hc := (creds_intro (F := F) c) $$ Hc
  isplitl [Hh HO Hc Hp]
  · isplitl [Hh]; · iexact Hh
    isplitl [Hc]; · iexact Hc
    isplitl [HO]; · iexact HO
    iexists (ρ c); iexact Hp
  isplitl [Hs] <;> iassumption

/-- A device's own part of what the funding makes. -/
def part (c : Dev nD) : sProp 𝕄 :=
  iprop(atPos ER (barCell c) 0 ∅ 0 ∗ ((bigSep Finset.univ fun k => openTok ER (sendCell k c)) ∗ (bigSep Finset.univ fun k => openTok ER (recvCell k c))) ∗ toks c)

def known (κ : GSem nD τ sig → ℕ) : sProp 𝕄 := iprop(Inv (opnds m) κ ∗ bigSep Finset.univ fun b => reached ER (barCell b) 0)

instance (κ : GSem nD τ sig → ℕ) : BI.Persistent (known m κ) := by unfold known; infer_instance

theorem start_intro (κ : GSem nD τ sig → ℕ) (c : Dev nD) :
    iprop(known m κ ∗ (part c ∗ base m c)) ⊢ iprop(StableHlo.held (c : Thread nD τ) (Pipeline.ucRefs τ sig) (V0 m c) ∗ E m 0 c) := by
  rw [E_zero]
  unfold known part base Tk
  iintro ⟨⟨#HI, #HR⟩, ⟨Hat, ⟨Hos, Hor⟩, Ht⟩, Hh, Hc, HO, Hp⟩
  isplitl [Hh]; · iexact Hh
  isplitr [HO Hp]
  · iexists κ
    isplitr; · iexact HI
    isplitr; · iexact HR
    iframe
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop((bigSep Finset.univ fun c => base m c) ∗ (bigSep barCells fun g => semVal g 0) ∗ BI.own (ER (launchOf barCells dmaCells tokens))) : sProp 𝕄) := by
    refine (bigSep_mono fun c _ => base_intro m ρ c).trans ?_
    rw [bigSep_sep', bigSep_sep', G_all]
    unfold barCells
    rw [bigSep_map]
    exact Entails.refl _
  have hat : (bigSep barCells fun g => atPos ER g 0 ∅ 0 : sProp 𝕄) = bigSep Finset.univ fun c => atPos ER (barCell c) 0 ∅ 0 := by
    unfold barCells; rw [bigSep_map]; rfl
  have hre : (bigSep barCells fun g => reached ER g 0 : sProp 𝕄) = bigSep Finset.univ fun c => reached ER (barCell c) 0 := by
    unfold barCells; rw [bigSep_map]; rfl
  iintro ⟨H, -⟩
  ihave H := hall $$ H
  icases H with ⟨HB, Hv, Hu⟩
  imod (Rounds.fund_launch ER (Rd (opnds m)) cells_apart (fun g _ h => h) tokens) $$ [Hv Hu] with ⟨%κ, -, #Hinv, #Hr, Hat, Hopen, Htok⟩
  · isplitl [Hv] <;> iassumption
  imodintro
  iapply (bigSep_with_persistent (R := known m κ) (Φ := fun c => iprop(part c ∗ base m c)) fun c _ => start_intro m κ c)
  isplitr
  · unfold known
    isplitr
    · iapply (Inv_intro (opnds m) κ); iexact Hinv
    · iapply (Entails.of_eq hre); iexact Hr
  iapply both
  isplitr [HB]
  · unfold part
    iapply both
    isplitl [Hat]; · iapply (Entails.of_eq hat); iexact Hat
    iapply both
    isplitl [Hopen]; · iapply (Entails.of_eq (opens_eq (F := F))); iexact Hopen
    iapply (Entails.of_eq (tokens_eq (F := F))); iexact Htok
  · iexact HB

/-! ## The run -/

theorem refs_sub : Pipeline.arrRefs (τ := τ) spec0 ⊆ Pipeline.ucRefs τ sig := Pipeline.arrRefs_sub_ucRefs spec0 (by decide)

theorem pre_intro [∀ e, Nonempty (Elt F e)] (c : Dev nD) :
    iprop(StableHlo.held (c : Thread nD τ) (Pipeline.ucRefs τ sig) (V1 m c) ∗ E m 0 c) ⊢ (reg0 m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ Tk m c ∗ ∃ Wd, owes (c : Thread nD τ) (0 + O₀ c) Wd)
  rw [E_zero, StableHlo.held_sub_split (c : Thread nD τ) refs_sub (V1 m c), zero_add]
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem post_elim [∀ e, Nonempty (Elt F e)] (c : Dev nD) :
    (reg0 m).post c ⊢ iprop(StableHlo.held (c : Thread nD τ) (Pipeline.ucRefs τ sig) (V2 m (outs m) c) ∗ E m 1 c) := by
  show iprop(StableHlo.held (c.tc : Thread nD τ) (Pipeline.arrRefs spec0) (V2 m (outs m) c) ∗ (∃ r, prngReg c r)
    ∗ (StableHlo.held (c.tc : Thread nD τ) others (V2 m (outs m) c) ∗ emp) ∗ semVal (barCell c) 0 ∗ ∃ Wd, owes (c : Thread nD τ) 0 Wd) ⊢ _
  rw [E_one, StableHlo.held_sub_split (c : Thread nD τ) refs_sub (V2 m (outs m) c)]
  iintro ⟨Ha, -, ⟨Ho, -⟩, Hb, HO⟩
  isplitl [Ha Ho]
  · isplitl [Ha] <;> iassumption
  isplitl [Hb] <;> iassumption

theorem mem_refs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- The run: from any memory with every counter at zero, every fair execution ends, the arguments as they were, the result the last valuation's and
    every counter at zero. -/
theorem run_main [∀ e, Nonempty (Elt F e)] : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v15) = V3 m (outs m) c main_v15) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Pipeline.Seg.run_eq_chain,
        show (segs m (outs m) 𝒱₀ L lv (E m) () (pdats m) (reg0 m) c).map Pipeline.Seg.prog = [
          StableHlo.seq (hostOps0 c), Prog.lift (.customCall (Pipeline.entry 0) ()), StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, pre_intro m c, post_elim m c, by
      show iprop(StableHlo.held (c : Thread nD τ) (Pipeline.ucRefs τ sig) (V3 m (outs m) c) ∗ E m 1 c) ⊢ _
      rw [E_one]
      iintro ⟨Hh, Hb, HO⟩
      isplitr [HO]
      · isplitl [Hh] <;> iassumption
      · iexact HO⟩)
    (hinit := init m ρ)
    (QY := fun c s => (∀ r : Ref sig .tc, r.isScoped = false → s.mem ((c.tc : Thread nD τ).loc r) = V3 m (outs m) c r) ∧ s.sem (barCell c) = 0)
    (hfin := fun c s' => ?_)
    (hQ := fun s h hs => ⟨fun c => ?_, sem_eq_zero hs fun c sm hsm => by
      obtain rfl := unscoped_bar sm hsm
      exact (h c).2⟩)
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨fun r hr => h (Proc.devRef .tc r) (mem_refs r hr), by simpa using hb⟩
    · iexact HSI
  · obtain ⟨h, -⟩ := h c
    exact ⟨⟨(h main_arg0 (by decide)).trans (V3_main_arg0 m (outs m) c), (h main_arg1 (by decide)).trans (V3_main_arg1 m (outs m) c),
      (h main_arg2 (by decide)).trans (V3_main_arg2 m (outs m) c), (h main_arg3 (by decide)).trans (V3_main_arg3 m (outs m) c),
      (h main_arg4 (by decide)).trans (V3_main_arg4 m (outs m) c)⟩, h main_v15 (by decide)⟩

/-- The run leaves every operand as it was, and no semaphore counts. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (run_main m ρ)

end Run

end Cert.KernelIdeal.Run
-- ==== Proof.Spec.lean ====
/-
  The problem's mathematics over the extended reals, on plain functions of rows and columns: one head of attention,
  and what a list of weights makes of one block of the batch.
-/
module

public import Idealize.ShloMosaic.PureOps.Ideal.Laws
public import Idealize.ShloMosaic.Lib.ValueIdx

@[expose] public section

noncomputable section

namespace Cert.Attn

open Idealize.ShloMosaic

/-- The factor on the scores. -/
def kap : EReal := Ideal.ofBits .f32 0x3DB504F3#32
/-- What a row's maximum starts from. -/
def low : EReal := Ideal.ofBits .f32 0xFF800000#32

/-- A head's scaled scores. -/
def sco (q k : Fin 256 → Fin 128 → EReal) (i j : Fin 256) : EReal := (∑ e, q i e * k j e) * kap

/-- A score's exponential, its row's largest score taken off first. -/
def ex (s : Fin 256 → Fin 256 → EReal) (i j : Fin 256) : EReal :=
  Ideal.exp (s i j - Finset.univ.fold max low (s i))

/-- The mean of the rows of `v` under the weights `p`. -/
def mean (p : Fin 256 → Fin 256 → EReal) (v : Fin 256 → Fin 128 → EReal) (i : Fin 256) (e : Fin 128) : EReal :=
  Ideal.div (∑ j, p i j * v j e) (∑ j, p i j)

/-- One head. -/
def head (q k v : Fin 256 → Fin 128 → EReal) : Fin 256 → Fin 128 → EReal := mean (ex (sco q k)) v

/-- A block times a 128-column weight. -/
def lin (X : Fin 256 → Fin 1024 → EReal) (w : Fin 1024 → Fin 128 → EReal) (i : Fin 256) (e : Fin 128) : EReal :=
  ∑ k, X i k * w k e

/-- One head of a block, from the weights. -/
def att (X : Fin 256 → Fin 1024 → EReal) (wq wk wv : Fin 1024 → Fin 128 → EReal) : Fin 256 → Fin 128 → EReal :=
  head (lin X wq) (lin X wk) (lin X wv)

end Cert.Attn
-- ==== Proof.RefValue.lean ====
/-
  The reference's result at an index, over the extended reals: the sum over its 32 heads.
-/
module

public import proofs.«01_k».proof.Proof.Gen.ReferenceIdeal.Read
public import proofs.«01_k».proof.Proof.Spec

@[expose] public section

set_option maxRecDepth 16384

noncomputable section

namespace Cert.ReferenceIdeal.Read

open Cert.ReferenceIdeal Cert.ReferenceIdeal.Gen Idealize.ShloMosaic Idealize.ShloMosaic.TcCoe
open Idealize.ShloMosaic.ValueIdx Cert.Attn

/-- The columns of head `h`'s queries. -/
def rq (h : Fin 32) (e : Fin 128) : Fin 4096 := ⟨128 * h.val + e.val, by omega⟩
/-- The columns of its keys and values: four heads share them. -/
def rk (h : Fin 32) (e : Fin 128) : Fin 1024 := ⟨128 * (h.val / 4) + e.val, by omega⟩

variable (x : (⟨S4x256x1024, .f32⟩ : BufTy).Contents (Elt Ideal)) (wq : (⟨S1024x4096, .f32⟩ : BufTy).Contents (Elt Ideal))
  (wo : (⟨S4096x1024, .f32⟩ : BufTy).Contents (Elt Ideal)) (wk wv : (⟨S1024x1024, .f32⟩ : BufTy).Contents (Elt Ideal))

/-- Block `b` of the batch. -/
def xB (b : Fin 4) (i : Fin 256) (k : Fin 1024) : EReal := x (ix3 b i k)
/-- Head `h`'s queries, keys or values of block `b`. -/
def qB (b : Fin 4) (h : Fin 32) : Fin 256 → Fin 128 → EReal := lin (xB x b) fun k e => wq (ix2 k (rq h e))
def kB (w : (⟨S1024x1024, .f32⟩ : BufTy).Contents (Elt Ideal)) (b : Fin 4) (h : Fin 32) : Fin 256 → Fin 128 → EReal :=
  lin (xB x b) fun k e => w (ix2 k (rk h e))

theorem v1_at (b : Fin 4) (i : Fin 256) (h : Fin 32) (e : Fin 128) : val_main_v1 x wq (ix4 b i h e) = qB x wq b h i e := by
  have hi : idx_main_v1 (ix4 b i h e) = ix3 b i (rq h e) := funext fun a => Fin.ext (by
    match a with
    | ⟨0, _⟩ => show (((b.val * 256 + i.val) * 32 + h.val) * 128 + e.val) / 1048576 = b.val; omega
    | ⟨1, _⟩ => show (((b.val * 256 + i.val) * 32 + h.val) * 128 + e.val) / 4096 % 256 = i.val; omega
    | ⟨2, _⟩ => show (((b.val * 256 + i.val) * 32 + h.val) * 128 + e.val) % 4096 = 128 * h.val + e.val; omega)
  rw [val_main_v1_apply, hi, val_main_v0_apply]
  unfold qB lin xB
  exact Finset.sum_congr rfl fun k _ => congrArg₂ (· * ·) (congrArg x (eq_ix3 _)) (congrArg wq (eq_ix2 _))

/-- The index of a repeated head, back at the head that is repeated. -/
theorem kv_idx (b : Fin 4) (i : Fin 256) (h : Fin 32) (e : Fin 128) :
    idx_main_v3 (idx_main_v6 (idx_main_v7 (ix4 b i h e))) = ix3 b i (rk h e) := by
  have h7 : idx_main_v6 (idx_main_v7 (ix4 b i h e)) = ix4 b i (⟨h.val / 4, by omega⟩ : Fin 8) e := funext fun a => Fin.ext (by
    match a with
    | ⟨0, _⟩ => show (((b.val * 256 + i.val) * 32 + h.val) * 128 + e.val) / 1048576 = b.val; omega
    | ⟨1, _⟩ => show (((b.val * 256 + i.val) * 32 + h.val) * 128 + e.val) / 4096 % 256 = i.val; omega
    | ⟨2, _⟩ => show (((b.val * 256 + i.val) * 32 + h.val) * 128 + e.val) / 512 % 8 = h.val / 4; omega
    | ⟨3, _⟩ => show (((b.val * 256 + i.val) * 32 + h.val) * 128 + e.val) % 128 = e.val; omega)
  rw [h7]
  refine funext fun a => Fin.ext ?_
  match a with
  | ⟨0, _⟩ => show (((b.val * 256 + i.val) * 8 + h.val / 4) * 128 + e.val) / 262144 = b.val; omega
  | ⟨1, _⟩ => show (((b.val * 256 + i.val) * 8 + h.val / 4) * 128 + e.val) / 1024 % 256 = i.val; omega
  | ⟨2, _⟩ => show (((b.val * 256 + i.val) * 8 + h.val / 4) * 128 + e.val) % 1024 = 128 * (h.val / 4) + e.val; omega

theorem v7_at (b : Fin 4) (i : Fin 256) (h : Fin 32) (e : Fin 128) : val_main_v7 x wk (ix4 b i h e) = kB x wk b h i e := by
  rw [val_main_v7_apply, val_main_v6_apply, val_main_v3_apply, kv_idx, val_main_v2_apply]
  unfold kB lin xB
  exact Finset.sum_congr rfl fun k _ => congrArg₂ (· * ·) (congrArg x (eq_ix3 _)) (congrArg wk (eq_ix2 _))

/-- The values are repeated as the keys are. -/
theorem v9_at (b : Fin 4) (i : Fin 256) (h : Fin 32) (e : Fin 128) : val_main_v9 x wv (ix4 b i h e) = kB x wv b h i e :=
  v7_at x wv b i h e

theorem v12_at (b : Fin 4) (h : Fin 32) (i j : Fin 256) :
    val_main_v12 x wq wk (ix4 b h i j) = sco (qB x wq b h) (kB x wk b h) i j := by
  have e10 : val_main_v10 x wq wk (ix4 b h i j) = ∑ e, qB x wq b h i e * kB x wk b h j e := by
    rw [val_main_v10_apply]
    refine Finset.sum_congr rfl fun e _ => congrArg₂ (· * ·) ?_ ?_
    · exact (congrArg (val_main_v1 x wq) (eq_ix4 _)).trans (v1_at x wq b i h e)
    · exact (congrArg (val_main_v7 x wk) (eq_ix4 _)).trans (v7_at x wk b j h e)
  rw [val_main_v12_apply, e10, val_main_v11_apply]
  rfl

theorem v13_at (b : Fin 4) (h : Fin 32) (i : Fin 256) :
    val_main_v13 x wq wk (ix3 b h i) = Finset.univ.fold max low (sco (qB x wq b h) (kB x wk b h) i) := by
  refine (Host.reduce_eq_fold_single _ (val_main_v12 x wq wk) (val_main_cst_0 (F := Ideal)) reducesTo_S4x32x256x256_S4x32x256_d3
    (by decide) h_S_ (ix3 b h i)).trans ?_
  refine congrArg (Finset.univ.fold max low) (funext fun k => ?_)
  refine (congrArg (val_main_v12 x wq wk) (funext fun a => ?_)).trans (v12_at x wq wk b h i k)
  match a with
  | ⟨0, _⟩ => rfl
  | ⟨1, _⟩ => rfl
  | ⟨2, _⟩ => rfl
  | ⟨3, _⟩ => rfl

theorem v17_at (b : Fin 4) (h : Fin 32) (i j : Fin 256) :
    val_main_v17 x wq wk (ix4 b h i j) = ex (sco (qB x wq b h) (kB x wk b h)) i j := by
  have e15 : val_main_v15 x wq wk (ix4 b h i j) = Finset.univ.fold max low (sco (qB x wq b h) (kB x wk b h) i) := by
    rw [val_main_v15_apply, val_main_v14_apply]
    exact (congrArg (val_main_v13 x wq wk) (eq_ix3 _)).trans (v13_at x wq wk b h i)
  rw [val_main_v17_apply, val_main_v16_apply, v12_at, e15]
  rfl

theorem v18_at (b : Fin 4) (h : Fin 32) (i : Fin 256) :
    val_main_v18 x wq wk (ix3 b h i) = ∑ j, ex (sco (qB x wq b h) (kB x wk b h)) i j := by
  rw [val_main_v18_apply]
  rw [val_main_cst_1_apply, Ideal.ofBits_def, Ideal.ofBits_zero_f32, zero_add]
  refine Finset.sum_congr rfl fun j _ => ?_
  exact (congrArg (val_main_v17 x wq wk) (eq_ix4 (idx_main_v18 (ix3 b h i) j))).trans (v17_at x wq wk b h i j)

theorem v20_at (b : Fin 4) (h : Fin 32) (e : Fin 128) (i : Fin 256) :
    val_main_v20 x wq wk wv (ix4 b h e i) = ∑ j, ex (sco (qB x wq b h) (kB x wk b h)) i j * kB x wv b h j e := by
  rw [val_main_v20_apply]
  refine Finset.sum_congr rfl fun j _ => ?_
  rw [eq_ix4 (lidx_main_v20 (ix4 b h e i) j), eq_ix4 (ridx_main_v20 (ix4 b h e i) j)]
  refine (congrArg₂ (· * ·) (v9_at x wv b j h e) (v17_at x wq wk b h i j)).trans ?_
  exact mul_comm _ _

theorem v24_at (b : Fin 4) (i : Fin 256) (h : Fin 32) (e : Fin 128) :
    val_main_v24 x wq wk wv (ix4 b i h e)
      = att (xB x b) (fun k e => wq (ix2 k (rq h e))) (fun k e => wk (ix2 k (rk h e))) (fun k e => wv (ix2 k (rk h e))) i e := by
  have e21 : val_main_v21 x wq wk wv (ix4 b i h e) = ∑ j, ex (sco (qB x wq b h) (kB x wk b h)) i j * kB x wv b h j e := by
    rw [val_main_v21_apply]
    exact (congrArg (val_main_v20 x wq wk wv) (eq_ix4 _)).trans (v20_at x wq wk wv b h e i)
  have e23 : val_main_v23 x wq wk (ix4 b i h e) = ∑ j, ex (sco (qB x wq b h) (kB x wk b h)) i j := by
    rw [val_main_v23_apply, val_main_v22_apply, val_main_v19_apply]
    exact (congrArg (val_main_v18 x wq wk) (eq_ix3 _)).trans (v18_at x wq wk b h i)
  rw [val_main_v24_apply, e21, e23]
  rfl

theorem v25_at (b : Fin 4) (i : Fin 256) (h : Fin 32) (e : Fin 128) :
    val_main_v25 x wq wk wv (ix3 b i (rq h e)) = val_main_v24 x wq wk wv (ix4 b i h e) := by
  rw [val_main_v25_apply]
  refine congrArg (val_main_v24 x wq wk wv) (funext fun a => Fin.ext ?_)
  match a with
  | ⟨0, _⟩ => show ((b.val * 256 + i.val) * 4096 + (128 * h.val + e.val)) / 1048576 = b.val; omega
  | ⟨1, _⟩ => show ((b.val * 256 + i.val) * 4096 + (128 * h.val + e.val)) / 4096 % 256 = i.val; omega
  | ⟨2, _⟩ => show ((b.val * 256 + i.val) * 4096 + (128 * h.val + e.val)) / 128 % 32 = h.val; omega
  | ⟨3, _⟩ => show ((b.val * 256 + i.val) * 4096 + (128 * h.val + e.val)) % 128 = e.val; omega

/-- The result: every head's contribution through its rows of the output projection. -/
theorem v26_at (b : Fin 4) (i : Fin 256) (n : Fin 1024) :
    val_main_v26 x wq wo wk wv (ix3 b i n) = ∑ h : Fin 32, ∑ e : Fin 128,
      att (xB x b) (fun k e => wq (ix2 k (rq h e))) (fun k e => wk (ix2 k (rk h e))) (fun k e => wv (ix2 k (rk h e))) i e
        * wo (ix2 (rq h e) n) := by
  have hs : ∀ f : Fin 4096 → EReal, ∑ E, f E = ∑ h : Fin 32, ∑ e : Fin 128, f (rq h e) := by
    intro f
    rw [← Fintype.sum_prod_type', ← Equiv.sum_comp (finProdFinEquiv (m := 32) (n := 128))]
    refine Finset.sum_congr rfl fun p _ => congrArg f (Fin.ext ?_)
    show p.2.val + 128 * p.1.val = 128 * p.1.val + p.2.val
    omega
  rw [val_main_v26_apply, hs]
  refine Finset.sum_congr rfl fun h _ => Finset.sum_congr rfl fun e _ => congrArg₂ (· * ·) ?_ ?_
  · exact (congrArg (val_main_v25 x wq wk wv) (eq_ix3 _)).trans ((v25_at x wq wk wv b i h e).trans (v24_at x wq wk wv b i h e))
  · exact congrArg wo (eq_ix2 _)

end Cert.ReferenceIdeal.Read
-- ==== Proof.Heads.lean ====
/-
One device's contribution to one block of the batch, written once.

The four blocks are computed by four copies of the same sequence of operations. Here that sequence has a name:
projections, eight heads, the heads side by side, the output projection, and one half of its rows.
-/
module

public import proofs.«01_k».proof.Proof.Contents

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The scaled scores of one head. -/
def scoresV (q k : FVec F S256x128 .f32) : FVec F S256x256 .f32 :=
  mulf (matmul dot_S256x128_S128x256_S256x256_1_0_0_1_n_n none q (transpose S128x256 [1, 0] k transposes_S256x128_p1_0_S128x256)
    (constant S256x256 .f32 0x00000000#32)) (broadcast S256x256 (Scalar.ofBits .f32 0x3DB504F3#32))

/-- The exponentials of a head's scores, each row's largest taken off first. -/
def expsV (s : FVec F S256x256 .f32) : FVec F S256x256 .f32 :=
  exp (subf s (broadcastTo S256x256 (shapeCast S256x1
    (multiReduction .maximumf [1] S256 s 0xFF800000#32 reduces_S256x256_S256 (.inl rfl) rfl) shapeCasts_S256_S256x1)
    broadcasts_S256x1_S256x256))

/-- The average of the rows of `v` with a head's exponentials as weights. -/
def meanV (p : FVec F S256x256 .f32) (v : FVec F S256x128 .f32) : FVec F S256x128 .f32 :=
  divf (matmul dot_S256x256_S256x128_S256x128_1_0_0_1_n_n none p v (constant S256x128 .f32 0x00000000#32))
    (broadcastTo S256x128 (shapeCast S256x1
      (multiReduction .add [1] S256 p 0x00000000#32 reduces_S256x256_S256 (.inl rfl) rfl) shapeCasts_S256_S256x1)
      broadcasts_S256x1_S256x128)

/-- One head. -/
def headV (q k v : FVec F S256x128 .f32) : FVec F S256x128 .f32 := meanV (expsV (scoresV q k)) v

theorem slices_q (n : Fin 8) : S256x1024.Slices ![0, 128 * n.val] S256x128 := by revert n; decide
theorem slices_kv (n : Fin 8) : S256x256.Slices ![0, 128 * (n.val / 4)] S256x128 := by revert n; decide

/-- Head `n` of a device's eight: its own 128 columns of the queries, those of its group of the keys and values. -/
def headN (q : FVec F S256x1024 .f32) (k v : FVec F S256x256 .f32) (n : Fin 8) : FVec F S256x128 .f32 :=
  headV (extractStridedSlice S256x128 ![0, 128 * n.val] q (slices_q n))
    (extractStridedSlice S256x128 ![0, 128 * (n.val / 4)] k (slices_kv n))
    (extractStridedSlice S256x128 ![0, 128 * (n.val / 4)] v (slices_kv n))

/-- The eight heads side by side. -/
def attnV (q : FVec F S256x1024 .f32) (k v : FVec F S256x256 .f32) : FVec F S256x1024 .f32 :=
  concatenate S256x1024 1 [⟨S256x128, headN q k v 0⟩, ⟨S256x128, headN q k v 1⟩, ⟨S256x128, headN q k v 2⟩, ⟨S256x128, headN q k v 3⟩,
    ⟨S256x128, headN q k v 4⟩, ⟨S256x128, headN q k v 5⟩, ⟨S256x128, headN q k v 6⟩, ⟨S256x128, headN q k v 7⟩]
    concatenates_S256x128_S256x128_S256x128_S256x128_S256x128_S256x128_S256x128_S256x128_S256x1024_d1

section Block
variable (wq wo : Vec F S1024x1024 .f32) (wk wv : Vec F S1024x256 .f32) (x : Vec F S1x256x1024 .f32)

/-- A block of the batch as a matrix. -/
def xV : FVec F S256x1024 .f32 := shapeCast S256x1024 x shapeCasts_S1x256x1024_S256x1024

/-- All 256 rows of a device's contribution to a block. -/
def blockV : FVec F S256x1024 .f32 :=
  matmul dot_S256x1024_S1024x1024_S256x1024_1_0_0_1_n_n none
    (attnV (matmul dot_S256x1024_S1024x1024_S256x1024_1_0_0_1_n_n none (xV x) (k0_pay1 wq) (constant S256x1024 .f32 0x00000000#32))
      (matmul dot_S256x1024_S1024x256_S256x256_1_0_0_1_n_n none (xV x) (k0_pay2 wk) (constant S256x256 .f32 0x00000000#32))
      (matmul dot_S256x1024_S1024x256_S256x256_1_0_0_1_n_n none (xV x) (k0_pay3 wv) (constant S256x256 .f32 0x00000000#32)))
    (k0_pay4 wo) (constant S256x1024 .f32 0x00000000#32)

theorem slices_half (h : Fin 2) : S256x1024.Slices ![128 * h.val, 0] S128x1024 := by revert h; decide

/-- One half of its rows, rounded, in a plane's own shape. -/
def halfV (h : Fin 2) : FVec F S1x1x128x1024 .bf16 :=
  shapeCast S1x1x128x1024 (truncf .bf16 (extractStridedSlice S128x1024 ![128 * h.val, 0] (blockV wq wo wk wv x) (slices_half h)) bitsLt_bf16_f32)
    shapeCasts_S128x1024_S1x1x128x1024

theorem plane0_eq (h : Fin 2) : plane0 wq wo wk wv x h = halfV wq wo wk wv x h := by
  match h with
  | 0 => rfl
  | 1 => rfl
theorem plane1_eq (h : Fin 2) : plane1 wq wo wk wv x h = halfV wq wo wk wv x h := by
  match h with
  | 0 => rfl
  | 1 => rfl
theorem plane2_eq (h : Fin 2) : plane2 wq wo wk wv x h = halfV wq wo wk wv x h := by
  match h with
  | 0 => rfl
  | 1 => rfl
theorem plane3_eq (h : Fin 2) : plane3 wq wo wk wv x h = halfV wq wo wk wv x h := by
  match h with
  | 0 => rfl
  | 1 => rfl

end Block

end Cert.KernelIdeal.Run
-- ==== Proof.HeadsRead.lean ====
/-
One device's contribution to one block of the batch at an index, over the extended reals.
-/
module

public import proofs.«01_k».proof.Proof.Heads
public import proofs.«01_k».proof.Proof.Spec
public import Idealize.ShloMosaic.Lib.MatmulPlain
public import Idealize.ShloMosaic.Lib.Pipeline.Value

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx Cert.Attn

/-- A product into zeros, at an index. -/
theorem mm_apply {M K N : ℕ} (d : DotDims ⟨2, ![M, K]⟩ ⟨2, ![K, N]⟩ ⟨2, ![M, N]⟩) (hd : d = DotDims.plain M K N)
    (a : FVec Ideal ⟨2, ![M, K]⟩ .f32) (b : FVec Ideal ⟨2, ![K, N]⟩ .f32) (r : Fin M) (c : Fin N) :
    matmul d none a b (constant ⟨2, ![M, N]⟩ .f32 0x00000000#32) (ix2 r c) = ∑ k : Fin K, (a (ix2 r k) * b (ix2 k c) : EReal) := by
  subst hd
  refine (Ideal.matmul_plain_apply none a b _ r c).trans ?_
  show Ideal.ofBits .f32 0x00000000#32 + _ = _
  rw [Ideal.ofBits_zero_f32, zero_add]

/-- A column of one value per row, spread over the row. -/
theorem spread_apply {N : ℕ} (y : FVec Ideal S256 .f32) (h : S256x1.Broadcasts ⟨2, ![256, N]⟩) (r : Fin 256) (c : Fin N) :
    broadcastTo ⟨2, ![256, N]⟩ (shapeCast S256x1 y shapeCasts_S256_S256x1) h (ix2 r c) = y (ix1 r) := by
  refine (broadcastTo_apply _ h (ix2 r c) (ix2 (n0 := 256) (n1 := 1) r 0) ?_).trans
    (shapeCast_apply _ shapeCasts_S256_S256x1 _ (ix1 r) ?_)
  · intro a
    match a with
    | ⟨0, _⟩ => rfl
    | ⟨1, _⟩ => rfl
  · rw [Shape.rowMajor_val_two, Shape.rowMajor_val_one]
    show r.val = r.val * 1 + 0
    omega

theorem scoresV_apply (q k : FVec Ideal S256x128 .f32) (i j : Fin 256) :
    scoresV q k (ix2 i j) = sco (fun i e => q (ix2 i e)) (fun i e => k (ix2 i e)) i j := by
  refine congrArg (· * kap) ?_
  refine (mm_apply _ rfl _ _ i j).trans (Finset.sum_congr rfl fun e _ => ?_)
  refine congrArg (q (ix2 i e) * ·) ?_
  refine transpose_apply _ k _ _ (ix2 j e) fun b => ?_
  match b with
  | ⟨0, _⟩ => rfl
  | ⟨1, _⟩ => rfl

theorem expsV_apply (s : FVec Ideal S256x256 .f32) (i j : Fin 256) :
    expsV s (ix2 i j) = ex (fun i j => s (ix2 i j)) i j := by
  refine congrArg (fun z => Ideal.exp (s (ix2 i j) - z)) ?_
  refine (spread_apply _ _ i j).trans ?_
  refine (Ideal.multiReduction_maximumf_single s _ reduces_S256x256_S256 (.inl rfl) rfl (ix1 i)).trans ?_
  refine congrArg (Finset.univ.fold max low) (funext fun k => congrArg s (funext fun a => ?_))
  match a with
  | ⟨0, _⟩ => rfl
  | ⟨1, _⟩ => rfl

theorem meanV_apply (p : FVec Ideal S256x256 .f32) (v : FVec Ideal S256x128 .f32) (i : Fin 256) (e : Fin 128) :
    meanV p v (ix2 i e) = mean (fun i j => p (ix2 i j)) (fun i e => v (ix2 i e)) i e := by
  refine congrArg₂ Ideal.div (mm_apply _ rfl _ _ i e) ?_
  refine (spread_apply _ _ i e).trans ?_
  refine (Ideal.multiReduction_add_single p _ reduces_S256x256_S256 (.inl rfl) rfl (ix1 i)).trans ?_
  refine Finset.sum_congr rfl fun k _ => congrArg p (funext fun a => ?_)
  match a with
  | ⟨0, _⟩ => rfl
  | ⟨1, _⟩ => rfl

theorem headV_apply (q k v : FVec Ideal S256x128 .f32) (i : Fin 256) (e : Fin 128) :
    headV q k v (ix2 i e) = head (fun i e => q (ix2 i e)) (fun i e => k (ix2 i e)) (fun i e => v (ix2 i e)) i e := by
  refine (meanV_apply _ v i e).trans ?_
  refine congrArg (fun p => mean p (fun i e => v (ix2 i e)) i e) (funext fun i => funext fun j => ?_)
  refine (expsV_apply _ i j).trans ?_
  exact congrArg (fun s => ex s i j) (funext fun i => funext fun j => scoresV_apply q k i j)

/-- 128 columns of a matrix of 256 rows, at an index. -/
theorem cols_apply {N : ℕ} (o : ℕ) (x : FVec Ideal ⟨2, ![256, N]⟩ .f32) (h : (⟨2, ![256, N]⟩ : Shape).Slices ![0, o] S256x128)
    (i : Fin 256) (e : Fin 128) (c : Fin N) (hc : c.val = o + e.val) :
    extractStridedSlice S256x128 ![0, o] x h (ix2 i e) = x (ix2 i c) := by
  refine extractStridedSlice_apply _ x h _ (ix2 i c) fun a => ?_
  match a with
  | ⟨0, _⟩ => exact (Nat.zero_add _).symm
  | ⟨1, _⟩ => exact hc

/-- The columns of head `n`'s queries among a device's 1024. -/
def qc (n : Fin 8) (e : Fin 128) : Fin 1024 := ⟨128 * n.val + e.val, by omega⟩
/-- Those of its keys and values among a device's 256. -/
def kc (n : Fin 8) (e : Fin 128) : Fin 256 := ⟨128 * (n.val / 4) + e.val, by omega⟩

theorem headN_apply (q : FVec Ideal S256x1024 .f32) (k v : FVec Ideal S256x256 .f32) (n : Fin 8) (i : Fin 256) (e : Fin 128) :
    headN q k v n (ix2 i e) = head (fun i e => q (ix2 i (qc n e))) (fun i e => k (ix2 i (kc n e))) (fun i e => v (ix2 i (kc n e))) i e := by
  refine (headV_apply _ _ _ i e).trans ?_
  have e1 := fun i e => cols_apply (128 * n.val) q (slices_q n) i e (qc n e) rfl
  have e2 := fun (x : FVec Ideal S256x256 .f32) i e => cols_apply (128 * (n.val / 4)) x (slices_kv n) i e (kc n e) rfl
  simp only [e1, e2]

theorem attnV_apply (q : FVec Ideal S256x1024 .f32) (k v : FVec Ideal S256x256 .f32) (i : Fin 256) (n : Fin 8) (e : Fin 128) :
    attnV q k v (ix2 i (qc n e)) = headN q k v n (ix2 i e) := by
  refine concatenate_ofFn_apply (t := S256x1024) (s₁ := S256x128) 1 (headN q k v) _ rfl 128 rfl (ix2 i (qc n e)) n ?_ (ix2 i e) ?_ ?_
  · show (128 * n.val + e.val) / 128 = n.val
    omega
  · show e.val = (128 * n.val + e.val) % 128
    omega
  · intro b hb
    match b with
    | ⟨0, _⟩ => rfl
    | ⟨1, _⟩ => exact absurd rfl hb

section Block
variable (wq wo : Vec Ideal S1024x1024 .f32) (wk wv : Vec Ideal S1024x256 .f32) (x : Vec Ideal S1x256x1024 .f32)

theorem xV_apply (i : Fin 256) (k : Fin 1024) : xV x (ix2 i k) = x (ix3 (n0 := 1) 0 i k) := by
  refine shapeCast_apply x _ _ _ ?_
  rw [Shape.rowMajor_val_two, Shape.rowMajor_val_three]
  show (0 * 256 + i.val) * 1024 + k.val = i.val * 1024 + k.val
  omega

theorem same_apply {s : Shape} (w : s.Idx → EReal) (h : s.ShapeCasts s) : shapeCast s w h = w := by
  funext j
  exact shapeCast_apply w h j j rfl

/-- Column `128·n + e` of the heads of a block: head `n` at `e`, from the weights. -/
theorem blockV_apply (i : Fin 256) (c : Fin 1024) :
    blockV wq wo wk wv x (ix2 i c) = ∑ n : Fin 8, ∑ e : Fin 128,
      att (fun i k => x (ix3 (n0 := 1) 0 i k)) (fun k e => wq (ix2 k (qc n e))) (fun k e => wk (ix2 k (kc n e)))
        (fun k e => wv (ix2 k (kc n e))) i e * wo (ix2 (qc n e) c) := by
  refine (mm_apply _ rfl _ _ i c).trans ?_
  have hs : ∀ f : Fin 1024 → EReal, ∑ E, f E = ∑ n : Fin 8, ∑ e : Fin 128, f (qc n e) := by
    intro f
    rw [← Fintype.sum_prod_type', ← Equiv.sum_comp (finProdFinEquiv (m := 8) (n := 128))]
    refine Finset.sum_congr rfl fun p _ => congrArg f (Fin.ext ?_)
    show p.2.val + 128 * p.1.val = 128 * p.1.val + p.2.val
    omega
  rw [hs]
  refine Finset.sum_congr rfl fun n _ => Finset.sum_congr rfl fun e _ => ?_
  refine congrArg₂ (· * ·) ?_ ?_
  · refine (attnV_apply _ _ _ i n e).trans ((headN_apply _ _ _ n i e).trans ?_)
    have e1 : ∀ (w : Vec Ideal S1024x1024 .f32) (i : Fin 256) (c : Fin 1024),
        matmul dot_S256x1024_S1024x1024_S256x1024_1_0_0_1_n_n none (xV x) (k0_pay1 w) (constant S256x1024 .f32 0x00000000#32) (ix2 i c)
          = ∑ k : Fin 1024, (x (ix3 (n0 := 1) 0 i k) * w (ix2 k c) : EReal) := fun w i c =>
      (mm_apply _ rfl _ _ i c).trans (Finset.sum_congr rfl fun k _ => congrArg₂ (· * ·) (xV_apply x i k)
        (congrFun (same_apply w _) _))
    have e2 : ∀ (w : Vec Ideal S1024x256 .f32) (i : Fin 256) (c : Fin 256),
        matmul dot_S256x1024_S1024x256_S256x256_1_0_0_1_n_n none (xV x) (k0_pay2 w) (constant S256x256 .f32 0x00000000#32) (ix2 i c)
          = ∑ k : Fin 1024, (x (ix3 (n0 := 1) 0 i k) * w (ix2 k c) : EReal) := fun w i c =>
      (mm_apply _ rfl _ _ i c).trans (Finset.sum_congr rfl fun k _ => congrArg₂ (· * ·) (xV_apply x i k)
        (congrFun (same_apply w _) _))
    have e3 : ∀ (w : Vec Ideal S1024x256 .f32), (k0_pay3 w : FVec Ideal S1024x256 .f32) = k0_pay2 w := fun _ => rfl
    simp only [e1, e3, e2]
    rfl
  · exact congrFun (same_apply wo _) _

theorem halfV_apply (h : Fin 2) (r : Fin 128) (c : Fin 1024) :
    halfV wq wo wk wv x h (ix4 (n0 := 1) (n1 := 1) 0 0 r c)
      = blockV wq wo wk wv x (ix2 (⟨128 * h.val + r.val, by omega⟩ : Fin 256) c) := by
  refine (shapeCast_apply _ _ _ (ix2 r c) ?_).trans
    (extractStridedSlice_apply _ (blockV wq wo wk wv x) (slices_half h) (ix2 r c) (ix2 (⟨128 * h.val + r.val, by omega⟩ : Fin 256) c) fun a => ?_)
  · rw [Shape.rowMajor_val_two, Shape.rowMajor_val_four]
    show r.val * 1024 + c.val = ((0 * 1 + 0) * 128 + r.val) * 1024 + c.val
    omega
  · match a with
    | ⟨0, _⟩ => rfl
    | ⟨1, _⟩ => exact (Nat.zero_add _).symm

end Block

end Cert.KernelIdeal.Run
-- ==== Proof.Sums.lean ====
/-
What the devices' sums are worth over the extended reals: every half of every block of the result is the sum of the
four devices' contributions to it.
-/
module

public import proofs.«01_k».proof.Proof.HeadsRead

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx Cert.Attn

variable (I : Inputs Ideal)

/-- Device `d`'s contribution to row `i`, column `n` of block `b` of the result. -/
def devPart (d : Dev nD) (b : Fin 4) (i : Fin 256) (n : Fin 1024) : EReal :=
  ∑ h : Fin 8, ∑ e : Fin 128,
    att (fun i k => I.x d (ix3 b i k)) (fun k e => I.wq d (ix2 k (qc h e))) (fun k e => I.wk d (ix2 k (kc h e)))
      (fun k e => I.wv d (ix2 k (kc h e))) i e * I.wo d (ix2 (qc h e) n)

/-- The block of the batch that plane `s` of device `c` is about. -/
def bt (s : Fin 4) (c : Dev nD) : Fin 4 :=
  match s with
  | 0 => p1 (p2 c)
  | 1 => p1 c
  | 2 => p2 c
  | 3 => c

theorem off1_bt : ∀ c : Dev nD, k0_off1 c = ![(bt 0 c).val, 0, 0] := by decide +kernel
theorem off2_bt : ∀ c : Dev nD, k0_off2 c = ![(bt 1 c).val, 0, 0] := by decide +kernel
theorem off3_bt : ∀ c : Dev nD, k0_off3 c = ![(bt 2 c).val, 0, 0] := by decide +kernel
theorem off4_bt : ∀ c : Dev nD, k0_off4 c = ![(bt 3 c).val, 0, 0] := by decide +kernel

/-- One block of a batch, read from it. -/
theorem read_block (X : Vec Ideal S4x256x1024 .f32) (b : Fin 4) (o : Fin 3 → ℕ) (ho : o = ![b.val, 0, 0])
    (hb : ∀ a, o a + S1x256x1024.size a ≤ S4x256x1024.size a) (i : Fin 256) (k : Fin 1024) :
    xM.view.readAt (Elt Ideal) (Rect.unit (s := S4x256x1024) o S1x256x1024.size hb).toLoadRect X (ix3 (n0 := 1) 0 i k)
      = X (ix3 b i k) := by
  subst ho
  refine congrArg X (funext fun a => Fin.ext ?_)
  match a with
  | ⟨0, _⟩ => show b.val + 1 * 0 = b.val; omega
  | ⟨1, _⟩ => show 0 + 1 * i.val = i.val; omega
  | ⟨2, _⟩ => show 0 + 1 * k.val = k.val; omega

theorem xAt_apply (s : Fin 4) (c : Dev nD) (i : Fin 256) (k : Fin 1024) :
    xAt I s c (ix3 (n0 := 1) 0 i k) = I.x c (ix3 (bt s c) i k) := by
  match s with
  | 0 => exact read_block _ _ _ (off1_bt c) _ i k
  | 1 => exact read_block _ _ _ (off2_bt c) _ i k
  | 2 => exact read_block _ _ _ (off3_bt c) _ i k
  | 3 => exact read_block _ _ _ (off4_bt c) _ i k

/-- Row `r` of half `h` of a block. -/
def rw256 (h : Fin 2) (r : Fin 128) : Fin 256 := ⟨128 * h.val + r.val, by omega⟩

theorem pv_apply (s : Fin 4) (h : Fin 2) (c : Dev nD) (r : Fin 128) (n : Fin 1024) :
    pv I s h c (ix4 (n0 := 1) (n1 := 1) 0 0 r n) = devPart I c (bt s c) (rw256 h r) n := by
  have e : pv I s h c = halfV (I.wq c) (I.wo c) (I.wk c) (I.wv c) (xAt I s c) h := by
    match s with
    | 0 => exact plane0_eq ..
    | 1 => exact plane1_eq ..
    | 2 => exact plane2_eq ..
    | 3 => exact plane3_eq ..
  rw [e, halfV_apply, blockV_apply]
  simp only [xAt_apply]
  rfl

theorem ps_apply (s : Fin 4) (h : Fin 2) (c : Dev nD) (r : Fin 128) (n : Fin 1024) :
    ps I s h c (ix2 r n) = devPart I c (bt s c) (rw256 h r) n := by
  refine Eq.trans ?_ (pv_apply I s h c r n)
  refine shapeCast_apply (pv I s h c) shapeCasts_S1x1x128x1024_S128x1024 (ix2 r n) _ ?_
  rw [Shape.rowMajor_val_two, Shape.rowMajor_val_four]
  show ((0 * 1 + 0) * 128 + r.val) * 1024 + n.val = r.val * 1024 + n.val
  omega

/-- A sum of a plane and what arrived in a landing buffer. -/
theorem pay68_apply (A : Vec Ideal S1x1x128x1024 .bf16) (B : Vec Ideal S128x1024 .bf16) (j : S128x1024.Idx) :
    k0_pay68 A (ld B) j = (sq sqP A j + B j : EReal) := by
  refine (congrFun (same_apply (s := S128x1024) (fun j => (sq sqP A j + sq sqL (ld B) j : EReal)) shapeCasts_S128x1024_S128x1024) j).trans ?_
  exact congrArg (fun z : EReal => (sq sqP A j + z : EReal)) (congrFun (sq_unsq sqL B) j)
theorem pay69_apply (A : Vec Ideal S1x1x128x1024 .bf16) (B : Vec Ideal S128x1024 .bf16) (j : S128x1024.Idx) :
    k0_pay69 A (ld B) j = (sq sqP A j + B j : EReal) := pay68_apply A B j
theorem pay91_apply (A : Vec Ideal S1x1x128x1024 .bf16) (B C : Vec Ideal S128x1024 .bf16) (j : S128x1024.Idx) :
    k0_pay91 A (ld B) C j = (sq sqP A j + B j + C j : EReal) := by
  refine (congrFun (same_apply (s := S128x1024) (fun j => (sq sqP A j + sq sqL (ld B) j + C j : EReal)) shapeCasts_S128x1024_S128x1024) j).trans ?_
  exact congrArg (fun z : EReal => (sq sqP A j + z + C j : EReal)) (congrFun (sq_unsq sqL B) j)
theorem pay90_apply (A : Vec Ideal S1x1x128x1024 .bf16) (B C : Vec Ideal S128x1024 .bf16) (j : S128x1024.Idx) :
    k0_pay90 (k0_pay89 A (ld B) C) j = (sq sqP A j + B j + C j : EReal) := pay91_apply A B C j

theorem snp_apply (c : Dev nD) (r : Fin 128) (n : Fin 1024) :
    snp I c (ix2 r n) = devPart I c (p2 c) (rw256 0 r) n + devPart I (p1 c) (p2 c) (rw256 0 r) n := by
  refine (pay68_apply _ _ _).trans (congrArg₂ (· + ·) (ps_apply I 2 0 c r n) ((ps_apply I 0 0 (p1 c) r n).trans ?_))
  rw [show bt 0 (p1 c) = p2 c by revert c; decide]
theorem snq_apply (c : Dev nD) (r : Fin 128) (n : Fin 1024) :
    snq I c (ix2 r n) = devPart I c (p1 c) (rw256 1 r) n + devPart I (p2 c) (p1 c) (rw256 1 r) n := by
  refine (pay69_apply _ _ _).trans (congrArg₂ (· + ·) (ps_apply I 1 1 c r n) ((ps_apply I 0 1 (p2 c) r n).trans ?_))
  rw [show bt 0 (p2 c) = p1 c by revert c; decide]

/-- Two neighbours and the corner between them, with the device itself, are the four devices. -/
theorem sum_devs (f : Dev nD → EReal) (c : Dev nD) : f c + f (p1 c) + (f (p2 c) + f (p1 (p2 c))) = ∑ d, f d := by
  have hs : ∑ d, f d = f 0 + f 1 + f 2 + f 3 := Fin.sum_univ_four f
  rw [hs]
  match c with
  | 0 => show f 0 + f 1 + (f 3 + f 2) = _; abel
  | 1 => show f 1 + f 0 + (f 2 + f 3) = _; abel
  | 2 => show f 2 + f 3 + (f 1 + f 0) = _; abel
  | 3 => show f 3 + f 2 + (f 0 + f 1) = _; abel

theorem redp_apply (b : Dev nD) (r : Fin 128) (n : Fin 1024) : redp I b (ix2 r n) = ∑ d, devPart I d b (rw256 0 r) n := by
  refine Eq.trans ?_ (sum_devs (fun d => devPart I d b (rw256 0 r) n) b)
  refine (pay91_apply _ _ _ _).trans (congrArg₂ (· + ·) (congrArg₂ (· + ·) (ps_apply I 3 0 b r n)
    ((ps_apply I 1 0 (p1 b) r n).trans ?_)) ((snp_apply I (p2 b) r n).trans ?_))
  · rw [show bt 1 (p1 b) = b from p1_p1 b]
  · rw [p2_p2 b]

theorem redq_apply (b : Dev nD) (r : Fin 128) (n : Fin 1024) : redq I b (ix2 r n) = ∑ d, devPart I d b (rw256 1 r) n := by
  have h : ∀ f : Dev nD → EReal, f b + f (p2 b) + (f (p1 b) + f (p2 (p1 b))) = ∑ d, f d := by
    intro f
    rw [← sum_devs f b, show p2 (p1 b) = p1 (p2 b) by revert b; decide]
    abel
  refine Eq.trans ?_ (h (fun d => devPart I d b (rw256 1 r) n))
  refine (pay90_apply _ _ _ _).trans (congrArg₂ (· + ·) (congrArg₂ (· + ·) (ps_apply I 3 1 b r n)
    ((ps_apply I 2 1 (p2 b) r n).trans ?_)) ((snq_apply I (p1 b) r n).trans ?_))
  · rw [show bt 2 (p2 b) = b from p2_p2 b]
  · rw [p1_p1 b]

/-- Half `h` of block `b` of the result. -/
theorem oh_apply (b : Dev nD) (h : Fin 2) (r : Fin 128) (n : Fin 1024) :
    oh I b h (ix2 r n) = ∑ d, devPart I d b (rw256 h r) n := by
  match h with
  | 0 => exact redp_apply I b r n
  | 1 => exact redq_apply I b r n

/-- The result's rows are the blocks' one after the other. -/
theorem outV_apply (b : Fin 4) (i : Fin 256) (n : Fin 1024) :
    outV I (ix2 (⟨256 * b.val + i.val, by omega⟩ : Fin 1024) n) = ∑ d, devPart I d b i n := by
  have hb : (256 * b.val + i.val) / 256 = b.val := by omega
  have hr : rw256 ⟨(256 * b.val + i.val) / 128 % 2, Nat.mod_lt _ (by decide)⟩ ⟨(256 * b.val + i.val) % 128, Nat.mod_lt _ (by decide)⟩ = i :=
    Fin.ext (by show 128 * ((256 * b.val + i.val) / 128 % 2) + (256 * b.val + i.val) % 128 = i.val; omega)
  have e := oh_apply I b ⟨(256 * b.val + i.val) / 128 % 2, Nat.mod_lt _ (by decide)⟩ ⟨(256 * b.val + i.val) % 128, Nat.mod_lt _ (by decide)⟩ n
  rw [hr] at e
  refine Eq.trans ?_ e
  unfold outV
  refine congrArg₂ (fun (d : Dev nD) (j : S128x1024.Idx) => oh I d ⟨(256 * b.val + i.val) / 128 % 2, Nat.mod_lt _ (by decide)⟩ j)
    (Fin.ext hb) (funext fun a => ?_)
  match a with
  | ⟨0, _⟩ => rfl
  | ⟨1, _⟩ => rfl

end Cert.KernelIdeal.Run
-- ==== Proof.Value.lean ====
/-
  The kernel's result over the extended reals is the reference's: the host line's slices of the key and value weights, the
  blocks of the other two weights, and the heads counted device by device.
-/
module

public import proofs.«01_k».proof.Proof.Sums
public import proofs.«01_k».proof.Proof.Launch
public import proofs.«01_k».proof.Proof.RefValue
public import Idealize.ShloMosaic.Lib.DynamicIndex
public import Idealize.ShloMosaic.Lib.Layout
public import Idealize.ShloMosaic.Lib.StableHlo.Run

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx Cert.Attn

/-! ## The slices of the key and value weights -/

section Slices
variable (m : (ℓ : Loc nD τ sig) → Buf (Elt F) ℓ)

/-- Where the slice of a device begins: its own 256 columns. -/
def kvCut (c : Dev nD) : Fin 2 → Nat := ![0, 256 * c.val]

theorem kvCut_fits (c : Dev nD) : S1024x1024.Slices (kvCut c) S1024x256 := by
  revert c; decide

/-- The word the slice's first column is computed to. -/
def cutWord (c : Dev nD) : IVec S_ 32 :=
  muli (id (Host.remui (Host.divui (constantI S_ 32 c.word) (constantI S_ 32 1#32)) (constantI S_ 32 4#32)))
    (constantI S_ 32 256#32)

theorem word_eq : ∀ c : Dev nD, IntOp.muli (IntOp.remui .host (IntOp.divui .host c.word 1#32) 4#32) 256#32 = BitVec.ofNat 32 (256 * c.val) := by
  decide +kernel

theorem cutWord_eq (c : Dev nD) : cutWord c = fun _ => BitVec.ofNat 32 (256 * c.val) :=
  funext fun _ => word_eq c

/-- The column is not negative, so it is not counted from the end. -/
theorem cutStart (c : Dev nD) (j : S_.Idx) :
    (select (cmpi .slt (cutWord c) (constantI S_ 32 0#32)) (addi (cutWord c) (constantI S_ 32 1024#32)) (cutWord c) j).toInt
      = ((256 * c.val : Nat) : Int) := by
  have hc : c.val < 4 := c.isLt
  have h : (cutWord c j).toInt = ((256 * c.val : Nat) : Int) := by
    rw [cutWord_eq]
    exact toInt_ofNat_of_lt (by omega)
  rw [select_slt_zero_of_nonneg _ _ _ j (by rw [h]; omega), h]

theorem read_v8 (c : Dev nD) : StableHlo.after ((hostOps0 c).take 14) (V0 m c) main_v8 =
    select (cmpi .slt (cutWord c) (constantI S_ 32 0#32)) (addi (cutWord c) (constantI S_ 32 1024#32)) (cutWord c) := by
  unfold hostOps0
  simp only [List.take]
  after_results
  rfl

theorem V1_v9 (c : Dev nD) :
    V1 m c main_v9 = extractStridedSlice S1024x256 (kvCut c) (m (c, main_arg3)) (kvCut_fits c) := by
  unfold V1 hostOps0
  after_results
  refine Host.dynamicSlice_eq_extractStridedSlice _ _ _ _ _ _ fun a => ?_
  match a with
  | ⟨0, _⟩ => after_results; rfl
  | ⟨1, _⟩ => exact (congrArg (fun w : IVec S_ 32 => (w (Shape.Idx.first h_S_)).toInt) (read_v8 m c)).trans (cutStart c _)

theorem read_v12 (c : Dev nD) : StableHlo.after ((hostOps0 c).take 21) (V0 m c) main_v12 =
    select (cmpi .slt (cutWord c) (constantI S_ 32 0#32)) (addi (cutWord c) (constantI S_ 32 1024#32)) (cutWord c) := by
  unfold hostOps0
  simp only [List.take]
  after_results
  rfl

theorem V1_v13 (c : Dev nD) :
    V1 m c main_v13 = extractStridedSlice S1024x256 (kvCut c) (m (c, main_arg4)) (kvCut_fits c) := by
  unfold V1 hostOps0
  after_results
  refine Host.dynamicSlice_eq_extractStridedSlice _ _ _ _ _ _ fun a => ?_
  match a with
  | ⟨0, _⟩ => after_results; rfl
  | ⟨1, _⟩ => exact (congrArg (fun w : IVec S_ 32 => (w (Shape.Idx.first h_S_)).toInt) (read_v12 m c)).trans (cutStart c _)

/-- Column `j` of device `c`'s slice. -/
def cc (c : Dev nD) (j : Fin 256) : Fin 1024 := ⟨256 * c.val + j.val, by have : c.val < 4 := c.isLt; omega⟩

theorem kvCut_apply (c : Dev nD) (x : FVec F S1024x1024 .f32) (k : Fin 1024) (j : Fin 256) :
    extractStridedSlice S1024x256 (kvCut c) x (kvCut_fits c) (ix2 k j) = x (ix2 k (cc c j)) := by
  refine extractStridedSlice_apply _ x _ _ (ix2 k (cc c j)) fun a => ?_
  match a with
  | ⟨0, _⟩ => exact (Nat.zero_add _).symm
  | ⟨1, _⟩ => rfl

theorem wk_at (c : Dev nD) (k : Fin 1024) (j : Fin 256) : (opnds m).wk c (ix2 k j) = m (c, main_arg3) (ix2 k (cc c j)) :=
  (congrFun (V1_v9 m c) _).trans (kvCut_apply c _ k j)

theorem wv_at (c : Dev nD) (k : Fin 1024) (j : Fin 256) : (opnds m).wv c (ix2 k j) = m (c, main_arg4) (ix2 k (cc c j)) :=
  (congrFun (V1_v13 m c) _).trans (kvCut_apply c _ k j)

theorem x_at (c : Dev nD) : (opnds m).x c = m (c, main_arg0) := V1_of m c main_arg0 (by decide)
theorem wq_at (c : Dev nD) : (opnds m).wq c = m (c, main_arg1) := V1_of m c main_arg1 (by decide)
theorem wo_at (c : Dev nD) : (opnds m).wo c = m (c, main_arg2) := V1_of m c main_arg2 (by decide)

/-- The host's last line only names the result's rows by block. -/
theorem V3_at (c : Dev nD) (b : Fin 4) (i : Fin 256) (n : Fin 1024) :
    V3 m (outs m) c main_v15 (ix3 b i n) = outV (opnds m) (ix2 (⟨256 * b.val + i.val, by omega⟩ : Fin 1024) n) := by
  have h : V3 m (outs m) c main_v15 = shapeCast S4x256x1024 (outV (opnds m)) shapeCasts_S1024x1024_S4x256x1024 := by
    unfold V3 hostOps1
    after_results
    rw [← outs_v14 m c]
    exact congrArg (fun w => shapeCast S4x256x1024 w shapeCasts_S1024x1024_S4x256x1024) (Function.update_self ..)
  rw [h]
  refine shapeCast_apply (outV (opnds m)) _ _ _ ?_
  rw [Shape.rowMajor_val_two, Shape.rowMajor_val_three]
  show (256 * b.val + i.val) * 1024 + n.val = (b.val * 256 + i.val) * 1024 + n.val
  omega

end Slices

/-! ## Head by head -/

section Value
open Cert.ReferenceIdeal.Read (rq rk xB v26_at)

variable (m : (ℓ : Loc nD τ sig) → Buf (Elt Ideal) ℓ)
variable (x : FVec Ideal ⟨3, ![4, 256, 1024]⟩ .f32) (Wq : FVec Ideal ⟨2, ![1024, 4096]⟩ .f32)
  (Wo : FVec Ideal ⟨2, ![4096, 1024]⟩ .f32) (Wk Wv : FVec Ideal ⟨2, ![1024, 1024]⟩ .f32)

/-- Head `h` of device `d` among the reference's 32. -/
def hd (d : Dev nD) (h : Fin 8) : Fin 32 := ⟨8 * d.val + h.val, by have : d.val < 4 := d.isLt; omega⟩

theorem rq_hd (d : Dev nD) (h : Fin 8) (e : Fin 128) : (rq (hd d h) e).val = d.val * 1024 + (qc h e).val := by
  show 128 * (8 * d.val + h.val) + e.val = d.val * 1024 + (128 * h.val + e.val)
  omega

theorem rk_hd (d : Dev nD) (h : Fin 8) (e : Fin 128) : rk (hd d h) e = cc d (kc h e) := Fin.ext (by
  show 128 * ((8 * d.val + h.val) / 4) + e.val = 256 * d.val + (128 * (h.val / 4) + e.val)
  omega)

/-- The arguments of the devices are those of the reference: whole or in blocks. -/
structure Agree : Prop where
  x : ∀ c, m (c, main_arg0) = x
  wq : ∀ c, m (c, main_arg1) = Layout.block ⟨2, ![1024, 1024]⟩ ⟨2, ![1024, 4096]⟩ 1 4 c Wq
  wo : ∀ c, m (c, main_arg2) = Layout.block ⟨2, ![1024, 1024]⟩ ⟨2, ![4096, 1024]⟩ 0 4 c Wo
  wk : ∀ c, m (c, main_arg3) = Wk
  wv : ∀ c, m (c, main_arg4) = Wv

variable {m x Wq Wo Wk Wv}

theorem devPart_eq (A : Agree m x Wq Wo Wk Wv) (d : Dev nD) (b : Fin 4) (i : Fin 256) (n : Fin 1024) :
    devPart (opnds m) d b i n = ∑ h : Fin 8, ∑ e : Fin 128,
      att (xB x b) (fun k e => Wq (ix2 k (rq (hd d h) e))) (fun k e => Wk (ix2 k (rk (hd d h) e)))
        (fun k e => Wv (ix2 k (rk (hd d h) e))) i e * Wo (ix2 (rq (hd d h) e) n) := by
  have eq : ∀ (h : Fin 8) (k : Fin 1024) (e : Fin 128), (opnds m).wq d (ix2 k (qc h e)) = Wq (ix2 k (rq (hd d h) e)) := by
    intro h k e
    rw [wq_at, A.wq, Layout.block_apply]
    refine congrArg Wq (funext fun a => Fin.ext ?_)
    match a with
    | ⟨0, _⟩ => rfl
    | ⟨1, _⟩ => exact (rq_hd d h e).symm
  have eo : ∀ (h : Fin 8) (e : Fin 128), (opnds m).wo d (ix2 (qc h e) n) = Wo (ix2 (rq (hd d h) e) n) := by
    intro h e
    rw [wo_at, A.wo, Layout.block_apply]
    refine congrArg Wo (funext fun a => Fin.ext ?_)
    match a with
    | ⟨0, _⟩ => exact (rq_hd d h e).symm
    | ⟨1, _⟩ => rfl
  have ek : ∀ (h : Fin 8) (k : Fin 1024) (e : Fin 128), (opnds m).wk d (ix2 k (kc h e)) = Wk (ix2 k (rk (hd d h) e)) := by
    intro h k e
    rw [wk_at, A.wk, rk_hd]
  have ev : ∀ (h : Fin 8) (k : Fin 1024) (e : Fin 128), (opnds m).wv d (ix2 k (kc h e)) = Wv (ix2 k (rk (hd d h) e)) := by
    intro h k e
    rw [wv_at, A.wv, rk_hd]
  have ex : ∀ (i : Fin 256) (k : Fin 1024), (opnds m).x d (ix3 b i k) = xB x b i k := by
    intro i k
    rw [x_at, A.x]
    rfl
  unfold devPart
  simp only [eq, eo, ek, ev, ex]

/-- The heads counted device by device. -/
theorem sum_heads (f : Fin 32 → EReal) : ∑ H, f H = ∑ d : Dev nD, ∑ h : Fin 8, f (hd d h) := by
  rw [← Fintype.sum_prod_type', ← Equiv.sum_comp (finProdFinEquiv (m := 4) (n := 8))]
  refine Finset.sum_congr rfl fun p _ => congrArg f (Fin.ext ?_)
  show p.2.val + 8 * p.1.val = 8 * p.1.val + p.2.val
  omega

theorem sum_devPart (A : Agree m x Wq Wo Wk Wv) (b : Fin 4) (i : Fin 256) (n : Fin 1024) :
    ∑ d, devPart (opnds m) d b i n = ∑ h : Fin 32, ∑ e : Fin 128,
      att (xB x b) (fun k e => Wq (ix2 k (rq h e))) (fun k e => Wk (ix2 k (rk h e))) (fun k e => Wv (ix2 k (rk h e))) i e
        * Wo (ix2 (rq h e) n) := by
  rw [sum_heads]
  exact Finset.sum_congr rfl fun d _ => devPart_eq A d b i n

/-- Every device's result is the reference's. -/
theorem result_eq (A : Agree m x Wq Wo Wk Wv) (c : Dev nD) :
    V3 m (outs m) c main_v15 = Cert.ReferenceIdeal.Read.val_main_v26 x Wq Wo Wk Wv := by
  have key : ∀ (b : Fin 4) (i : Fin 256) (n : Fin 1024),
      V3 m (outs m) c main_v15 (ix3 b i n) = Cert.ReferenceIdeal.Read.val_main_v26 x Wq Wo Wk Wv (ix3 b i n) := fun b i n =>
    ((V3_at m c b i n).trans (outV_apply (opnds m) b i n)).trans ((sum_devPart A b i n).trans (v26_at x Wq Wo Wk Wv b i n).symm)
  funext j
  have hj := eq_ix3 (n0 := 4) (n1 := 256) (n2 := 1024) j
  exact (congrArg (V3 m (outs m) c main_v15) hj).trans ((key _ _ _).trans (congrArg _ hj.symm))

end Value

end Cert.KernelIdeal.Run
-- ==== Proof.lean ====
/-
  The claims about the distributed attention kernel: the run of `Launch` read at both float values, and the reference's.
-/
module

public import proofs.«01_k».proof.Defs
public import proofs.«01_k».proof.Proof.Launch
public import proofs.«01_k».proof.Proof.RefValue
public import proofs.«01_k».proof.Proof.Value
public import proofs.«01_k».proof.Proof.Gen.Kernel

@[expose] public section

set_option maxRecDepth 16384

noncomputable section

namespace Cert.Proof

open Idealize.ShloMosaic Idealize.SL.Sem

/-! ## The two readings of the kernel are one program -/

theorem defs₀_eq : Cert.Kernel.defs₀ (F := Bits) = Cert.KernelIdeal.defs₀ (F := Bits) := by
  unfold Cert.Kernel.defs₀ Cert.KernelIdeal.defs₀
  refine congrArg Defs.onTc ?_
  funext l a
  match l with
  | ⟨0, _⟩ => rfl

theorem defs_eq : Cert.Kernel.defs (F := Bits) = Cert.KernelIdeal.defs (F := Bits) :=
  congrArg (Pipeline.defs (Cert.KernelIdeal.pcfgs (F := Bits))) defs₀_eq

/-! ## The runs leave the operands -/

/-- On words, every run of the kernel ends with its operands unchanged and every semaphore at nought. -/
theorem frame_kernel : Cert.quiescent_Kernel (hKernel := Cert.Kernel.Gen.facts) := fun m ρ _ => by
  rw [defs_eq]
  exact Cert.KernelIdeal.Run.run_frame (F := Bits) m ρ

/-- The same over the extended reals. -/
theorem frame_ideal : Cert.quiescent_KernelIdeal (hKernelIdeal := Cert.KernelIdeal.Gen.facts) := fun m ρ _ =>
  Cert.KernelIdeal.Run.run_frame (F := Ideal) m ρ

/-- And for the reference, which has no semaphore. -/
theorem frame_ref : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run (F := Ideal) m ρ)

/-! ## The results -/

/-- Over the extended reals, every device of the kernel ends with the reference's result. -/
theorem algebraic : Cert.algebraic_KernelIdeal_ReferenceIdeal (hKernelIdeal := Cert.KernelIdeal.Gen.facts)
    (hReferenceIdeal := Cert.ReferenceIdeal.Gen.facts) := fun m g m' g' _ hargs => by
  have A := Cert.KernelIdeal.Run.Agree.mk (m := m) (fun c => (hargs c).1) (fun c => (hargs c).2.1) (fun c => (hargs c).2.2.1)
    (fun c => (hargs c).2.2.2.1) (fun c => (hargs c).2.2.2.2)
  refine ⟨_, (θ_run Cert.KernelIdeal.defs _ _).mono (fun _ h c => ⟨(h.1 c).2.trans (Cert.KernelIdeal.Run.result_eq A c), (h.1 c).1⟩)
    (Cert.KernelIdeal.Run.run_main (F := Ideal) m g), ?_⟩
  exact (θ_run Cert.ReferenceIdeal.defs _ _).mono
    (fun _ h => ⟨(h 0).1.trans (Cert.ReferenceIdeal.Read.val_main_v26_eq m' 0), (h 0).2⟩)
    (Cert.ReferenceIdeal.Value.run (F := Ideal) m' g')

/-- Every claim. -/
theorem claim : Cert.Claim :=
  ⟨Cert.Kernel.Gen.facts, Cert.KernelIdeal.Gen.facts, Cert.ReferenceIdeal.Gen.facts, frame_kernel, frame_ideal, frame_ref, trivial, algebraic⟩

end Cert.Proof

end
